-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S1 : Shape := ⟨1, ![1]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : IVec S_ 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_c_6 : IVec S_ 32 := constantI S_ 32 0#32
  let main_v19 : IVec S_ 1 := cmpi .ne main_arg5 main_c_6
  let main_v20 : IVec S_ 1 := andi main_v18 main_v19
  main_v20

def fn {F : FTy → Type} [FloatOps F] (main_arg0 : FVec F S8192x4096 .f32) (main_arg1 : FVec F S4096x4096 .f32) (main_arg2 : FVec F S4096 .f32) (main_arg3 : FVec F S1 .f32) (main_arg4 : FVec F S1 .f32) (main_arg5 : IVec S_ 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1 : Shape := ⟨1, ![1]⟩
abbrev S_ : Shape := ⟨0, ![]⟩
abbrev S4 : Shape := ⟨1, ![4]⟩
abbrev S1x4096 : Shape := ⟨2, ![1, 4096]⟩
abbrev S128x4096 : Shape := ⟨2, ![128, 4096]⟩
abbrev S256x4096 : Shape := ⟨2, ![256, 4096]⟩
abbrev S8x4096 : Shape := ⟨2, ![8, 4096]⟩
abbrev S128 : Shape := ⟨1, ![128]⟩
abbrev S128x1 : Shape := ⟨2, ![128, 1]⟩
abbrev S4096x128 : Shape := ⟨2, ![4096, 128]⟩
abbrev S1x128 : Shape := ⟨2, ![1, 128]⟩
abbrev S6x128 : Shape := ⟨2, ![6, 128]⟩
abbrev S8x128 : Shape := ⟨2, ![8, 128]⟩

abbrev nBuf : Space → Nat
  | .hbm => 39
  | .vmem => 9
  | .smem => 1
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1, .f32⟩
  | .hbm, ⟨4, _⟩ => ⟨S1, .f32⟩
  | .hbm, ⟨5, _⟩ => ⟨S_, .i32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1, .f32⟩
  | .hbm, ⟨35, _⟩ => ⟨S1, .f32⟩
  | .hbm, ⟨36, _⟩ => ⟨S4, .f32⟩
  | .hbm, ⟨37, _⟩ => ⟨S1x4096, .f32⟩
  | .hbm, ⟨38, _⟩ => ⟨S8192x4096, .f32⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S4096x4096, .bf16⟩
  | .local _ .vmem, ⟨8, _⟩ => ⟨S8x4096, .f32⟩
  | .local _ .smem, ⟨0, _⟩ => ⟨S4, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c32_i32 : BitVec 32 := 32#32
  let v2 : BitVec 1 := Scalar.cmpi .slt arg0 c32_i32
  let v3 : BitVec 32 := Scalar.extui v2
  let c0_i32 : BitVec 32 := 0#32
  let v4 : BitVec 1 := Scalar.cmpi .ne v3 c0_i32
  v4

def k0_off1 (i : grid0.Coords) : Fin 2 → Nat :=
  let c0_10 : Index := 0#32
  let arg0 : BitVec 32 := BitVec.ofNat 32 (i 0).val
  let c128_i32 : BitVec 32 := 128#32
  let v35 : BitVec 32 := Scalar.muli arg0 c128_i32
  let v36 : Index := Scalar.indexCast v35
  ![0, v36.toNat]
def k0_off2 (i : grid0.Coords) : Fin 2 → Nat :=
  let c0_15 : Index := 0#32
  let arg0 : BitVec 32 := BitVec.ofNat 32 (i 0).val
  let c128_i32_14 : BitVec 32 := 128#32
  let v53 : BitVec 32 := Scalar.muli arg0 c128_i32_14
  let v54 : Index := Scalar.indexCast v53
  ![0, v54.toNat]
def k0_off3 (i : grid0.Coords) : Fin 2 → Nat :=
  let c0_18 : Index := 0#32
  let arg0 : BitVec 32 := BitVec.ofNat 32 (i 0).val
  let c128_i32_17 : BitVec 32 := 128#32
  let v62 : BitVec 32 := Scalar.muli arg0 c128_i32_17
  let v63 : Index := Scalar.indexCast v62
  ![0, v63.toNat]
def k0_cond2 (i : grid0.Coords) : BitVec 1 :=
  let arg0 : BitVec 32 := BitVec.ofNat 32 (i 0).val
  let c32_i32_0 : BitVec 32 := 32#32
  let v5 : BitVec 1 := Scalar.cmpi .sge arg0 c32_i32_0
  let v6 : BitVec 32 := Scalar.extui v5
  let c0_i32_1 : BitVec 32 := 0#32
  let v7 : BitVec 1 := Scalar.cmpi .ne v6 c0_i32_1
  v7

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1 : Shape := ⟨1, ![1]⟩
abbrev S_ : Shape := ⟨0, ![]⟩
abbrev S4096x1 : Shape := ⟨2, ![4096, 1]⟩
abbrev S1x4096 : Shape := ⟨2, ![1, 4096]⟩
abbrev S8192 : Shape := ⟨1, ![8192]⟩
abbrev S8192x1 : Shape := ⟨2, ![8192, 1]⟩

abbrev nBuf : Space → Nat
  | .hbm => 110
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1, .f32⟩
  | .hbm, ⟨4, _⟩ => ⟨S1, .f32⟩
  | .hbm, ⟨5, _⟩ => ⟨S_, .i32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .i32⟩
  | .hbm, ⟨30, _⟩ => ⟨S_, .i32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S8192x4096, .f32⟩
  | .hbm, ⟨64, _⟩ => ⟨S8192x4096, .f32⟩
  | .hbm, ⟨65, _⟩ => ⟨S8192x4096, .f32⟩
  | .hbm, ⟨66, _⟩ => ⟨S8192x4096, .f32⟩
  | .hbm, ⟨67, _⟩ => ⟨S8192x4096, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8192x4096, .f32⟩
  | .hbm, ⟨72, _⟩ => ⟨S8192x4096, .f32⟩
  | .hbm, ⟨73, _⟩ => ⟨S8192x4096, .f32⟩
  | .hbm, ⟨74, _⟩ => ⟨S8192x4096, .f32⟩
  | .hbm, ⟨75, _⟩ => ⟨S8192x4096, .f32⟩
  | .hbm, ⟨76, _⟩ => ⟨S8192x4096, .f32⟩
  | .hbm, ⟨77, _⟩ => ⟨S4096x4096, .f32⟩
  | .hbm, ⟨78, _⟩ => ⟨S8192x4096, .f32⟩
  | .hbm, ⟨79, _⟩ => ⟨S1x4096, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x4096, .f32⟩
  | .hbm, ⟨84, _⟩ => ⟨S8192x4096, .f32⟩
  | .hbm, ⟨85, _⟩ => ⟨S8192x4096, .f32⟩
  | .hbm, ⟨86, _⟩ => ⟨S_, .f32⟩
  | .hbm, ⟨87, _⟩ => ⟨S4096, .f32⟩
  | .hbm, ⟨88, _⟩ => ⟨S1x4096, .f32⟩
  | .hbm, ⟨89, _⟩ => ⟨S1x4096, .f32⟩
  | .hbm, ⟨90, _⟩ => ⟨S1x4096, .f32⟩
  | .hbm, ⟨91, _⟩ => ⟨S8192x4096, .f32⟩
  | .hbm, ⟨92, _⟩ => ⟨S8192x4096, .f32⟩
  | .hbm, ⟨93, _⟩ => ⟨S1x4096, .f32⟩
  | .hbm, ⟨94, _⟩ => ⟨S1x4096, .f32⟩
  | .hbm, ⟨95, _⟩ => ⟨S1x4096, .f32⟩
  | .hbm, ⟨96, _⟩ => ⟨S_, .f32⟩
  | .hbm, ⟨97, _⟩ => ⟨S1x4096, .f32⟩
  | .hbm, ⟨98, _⟩ => ⟨S1x4096, .f32⟩
  | .hbm, ⟨99, _⟩ => ⟨S8192x4096, .f32⟩
  | .hbm, ⟨100, _⟩ => ⟨S8192x4096, .f32⟩
  | .hbm, ⟨101, _⟩ => ⟨S8192x4096, .f32⟩
  | .hbm, ⟨102, _⟩ => ⟨S1x4096, .f32⟩
  | .hbm, ⟨103, _⟩ => ⟨S1x4096, .f32⟩
  | .hbm, ⟨104, _⟩ => ⟨S1x4096, .f32⟩
  | .hbm, ⟨105, _⟩ => ⟨S8192x4096, .f32⟩
  | .hbm, ⟨106, _⟩ => ⟨S8192x4096, .f32⟩
  | .hbm, ⟨107, _⟩ => ⟨S1x4096, .f32⟩
  | .hbm, ⟨108, _⟩ => ⟨S8192x4096, .f32⟩
  | .hbm, ⟨109, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_c_4 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_cst_8 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_call5_v0 : Ref sig .tc := ⟨.hbm, 71, rfl⟩
abbrev main_call5_v1 : Ref sig .tc := ⟨.hbm, 72, rfl⟩
abbrev main_call5_v2 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_12 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]
-- ==== Proof.K.Shared.lean ====
module

public import proofs.«01_k».proof.Proof.Gen.KernelIdeal.Frame
public import proofs.«01_k».proof.Proof.Gen.KernelIdeal.Skeleton
public import Idealize.ShloMosaic.Lib.VecWindow
public import Idealize.ShloMosaic.Lib.WholeRead
public import Idealize.ShloMosaic.Lib.ValueIdx

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## When the two branches are taken -/

/-- The weight-preparing branch runs at a grid point. -/
abbrev Prep (i : grid0.Coords) : Prop := k0_cond1 i = 1#1
/-- The matrix-product branch runs at a grid point. -/
abbrev Mm (i : grid0.Coords) : Prop := k0_cond2 i = 1#1

/-- Weights are prepared at the first 32 points. -/
theorem prep_iff : ∀ t : Fin cfg0.N, Prep (grid0.coords t) ↔ t.val < 32 :=
  (by decide +kernel : ∀ t : Fin grid0.N, Prep (grid0.coords t) ↔ t.val < 32)

/-- Products are formed at the other points. -/
theorem mm_iff : ∀ t : Fin cfg0.N, Mm (grid0.coords t) ↔ 32 ≤ t.val :=
  (by decide +kernel : ∀ t : Fin grid0.N, Mm (grid0.coords t) ↔ 32 ≤ t.val)

/-! ## The buffers that the body is called with -/

/-- The buffer of window 0 at point `t`. -/
abbrev buf0 (t : Fin cfg0.N) : Memref sig .tc .smem S4 .f32 := win0_0.stage (cfg0.slots t 0)
/-- It is a whole buffer. -/
abbrev buf0_whole (t : Fin cfg0.N) : (buf0 t).IsWhole := hstage0_0 ((cfg0.slots t 0).cast nbuf0_0)
/-- The buffer of window 1 at point `t`. -/
abbrev buf1 (t : Fin cfg0.N) : Memref sig .tc .vmem S128x4096 .f32 := win0_1.stage (cfg0.slots t 1)
/-- It is a whole buffer. -/
abbrev buf1_whole (t : Fin cfg0.N) : (buf1 t).IsWhole := hstage0_1 ((cfg0.slots t 1).cast nbuf0_1)
/-- The buffer of window 2 at point `t`. -/
abbrev buf2 (t : Fin cfg0.N) : Memref sig .tc .vmem S1x4096 .f32 := win0_2.stage (cfg0.slots t 2)
/-- It is a whole buffer. -/
abbrev buf2_whole (t : Fin cfg0.N) : (buf2 t).IsWhole := hstage0_2 ((cfg0.slots t 2).cast nbuf0_2)
/-- The buffer of window 3 at point `t`. -/
abbrev buf3 (t : Fin cfg0.N) : Memref sig .tc .vmem S256x4096 .f32 := win0_3.stage (cfg0.slots t 3)
/-- It is a whole buffer. -/
abbrev buf3_whole (t : Fin cfg0.N) : (buf3 t).IsWhole := hstage0_3 ((cfg0.slots t 3).cast nbuf0_3)
/-- The buffer of window 4 at point `t`. -/
abbrev buf4 (t : Fin cfg0.N) : Memref sig .tc .vmem S256x4096 .f32 := win0_4.stage (cfg0.slots t 4)
/-- It is a whole buffer. -/
abbrev buf4_whole (t : Fin cfg0.N) : (buf4 t).IsWhole := hstage0_4 ((cfg0.slots t 4).cast nbuf0_4)
/-- The scratch of quantised weights. -/
abbrev scQ : Memref sig .tc .vmem S4096x4096 .bf16 := Memref.whole cc0_scratch0
/-- The scratch of the per-column factor and offset. -/
abbrev scC : Memref sig .tc .vmem S8x4096 .f32 := Memref.whole cc0_scratch1

/-- The scoped rest is the two scratches at some contents, with the generator's register. -/
theorem phiA_split (c : Dev nD) :
    (Pipeline.ΦA spec0 c : sProp 𝕄)
      = iprop(iprop((∃ d, owns (c : Thread nD τ) scQ fullShare d) ∗ (∃ d, owns (c : Thread nD τ) scC fullShare d)) ∗ (∃ r, prngReg c r)) := by
  unfold Pipeline.ΦA; rw [scopedRest0_eq]; simp only [scQ, scC, owns_whole]; try rfl

/-! ## What the body leaves -/

open Idealize.ShloMosaic.ValueIdx

/-- The weight scratch after block `b` of columns is stored. -/
def qNext (b : ℕ) (x1 : Vec F S128x4096 .f32) (q : Vec F S4096x4096 .bf16) : Vec F S4096x4096 .bf16 :=
  VecWindow.put q ![0, 128 * b] S4096x128.size (k0_pay7 x1)

/-- The scratch of factors and offsets after block `b` of columns is stored. -/
def eNext (b : ℕ) (x0 : Vec F S4 .f32) (x1 : Vec F S128x4096 .f32) (bias : Vec F S1x128 .f32) (e : Vec F S8x4096 .f32) :
    Vec F S8x4096 .f32 :=
  VecWindow.put e ![0, 128 * b] S8x128.size
    (k0_pay1 (k0_pay8 (x0 (ix1 0)) x1) (k0_pay9 (x0 (ix1 0)) (x0 (ix1 1)) x1) bias)

/-- One row of the scratch of factors and offsets. -/
def eRow (r : Fin 8) (e : Vec F S8x4096 .f32) : Vec F S1x4096 .f32 := fun j => e (ix2 r (j 1))

/-- The output block of a product point. -/
def yNext (x0 : Vec F S4 .f32) (x3 : Vec F S256x4096 .f32) (q : Vec F S4096x4096 .bf16) (e : Vec F S8x4096 .f32) :
    Vec F S256x4096 .f32 :=
  k0_pay2 (x0 (ix1 0)) (x0 (ix1 1)) (x0 (ix1 2)) (x0 (ix1 3)) x3 q (eRow 0 e) (eRow 1 e)

/-- A word read from the whole array of four scalars is that scalar. -/
theorem scal_read {arg : Memref sig .tc .smem S4 .f32} (h : arg.IsWhole) (x0 : Vec F S4 .f32) (k : Fin 4)
    {inb : ∀ a, (![k.val] : Fin 1 → ℕ) a + (![1] : Fin 1 → ℕ) a ≤ S4.size a}
    (j : (Rect.unit (s := S4) ![k.val] ![1] inb).shape.Idx) :
    View.readAt (Elt F) arg.view (Rect.unit (s := S4) ![k.val] ![1] inb).toLoadRect (h.unread x0) j = x0 (ix1 k) := by
  rw [h.readAt_unread]
  refine congrArg x0 (funext fun a => ?_)
  match a with
  | ⟨0, ha⟩ =>
    refine Fin.ext ?_
    have hj : (j ⟨0, ha⟩).val < 1 := (j ⟨0, ha⟩).isLt
    show k.val + 1 * (j ⟨0, ha⟩).val = k.val
    omega

/-- A row loaded from the whole scratch of factors and offsets. -/
theorem row_read {arg : Memref sig .tc .vmem S8x4096 .f32} (h : arg.IsWhole) (e : Vec F S8x4096 .f32) (r : Fin 8)
    (inb : ∀ a, (![r.val, 0] : Fin 2 → ℕ) a + (![1, 4096] : Fin 2 → ℕ) a ≤ S8x4096.size a) :
    View.readAt (Elt F) arg.view (Rect.unit (s := S8x4096) ![r.val, 0] ![1, 4096] inb).toLoadRect (h.unread e) = eRow r e := by
  funext j
  rw [h.readAt_unread]
  refine congrArg e (funext fun a => ?_)
  match a with
  | ⟨0, ha⟩ =>
    refine Fin.ext ?_
    have hj : (j ⟨0, ha⟩).val < 1 := (j ⟨0, ha⟩).isLt
    show r.val + 1 * (j ⟨0, ha⟩).val = r.val
    omega
  | ⟨1, ha⟩ =>
    refine Fin.ext ?_
    show 0 + 1 * (j ⟨1, ha⟩).val = (j ⟨1, ha⟩).val
    omega

end Cert.KernelIdeal.Hand

end
-- ==== Proof.K.Fill.lean ====
module

public import proofs.«01_k».proof.Proof.K.Shared

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-! ## The two scratches once every block of columns is stored -/

/-- The weight scratch with every block of columns stored, `X1 b` being the weight rows of block `b`. -/
def qAll (X1 : Fin 32 → Vec F S128x4096 .f32) : Vec F S4096x4096 .bf16 := fun j =>
  k0_pay7 (X1 ⟨(j 1).val / 128, by have : (j 1).val < 4096 := (j 1).isLt; omega⟩)
    (ix2 (j 0) ⟨(j 1).val % 128, Nat.mod_lt _ (by decide)⟩)

/-- The scratch of factors and offsets with every block of columns stored. -/
def eAll (x0 : Vec F S4 .f32) (X1 : Fin 32 → Vec F S128x4096 .f32) (B : Fin 32 → Vec F S1x128 .f32) : Vec F S8x4096 .f32 := fun j =>
  k0_pay1 (k0_pay8 (x0 (ix1 0)) (X1 ⟨(j 1).val / 128, by have : (j 1).val < 4096 := (j 1).isLt; omega⟩))
    (k0_pay9 (x0 (ix1 0)) (x0 (ix1 1)) (X1 ⟨(j 1).val / 128, by have : (j 1).val < 4096 := (j 1).isLt; omega⟩))
    (B ⟨(j 1).val / 128, by have : (j 1).val < 4096 := (j 1).isLt; omega⟩)
    (ix2 (j 0) ⟨(j 1).val % 128, Nat.mod_lt _ (by decide)⟩)

/-- Storing block `b` over a scratch filled below it fills it through block `b`. -/
theorem qNext_fill (X1 : Fin 32 → Vec F S128x4096 .f32) (b : Fin 32) (q : Vec F S4096x4096 .bf16)
    (hq : ∀ j : S4096x4096.Idx, (j 1).val < 128 * b.val → q j = qAll X1 j) :
    ∀ j : S4096x4096.Idx, (j 1).val < 128 * (b.val + 1) → qNext b.val (X1 b) q j = qAll X1 j := by
  intro j hj
  unfold qNext VecWindow.put
  by_cases h1 : (j 1).val < 128 * b.val
  · rw [dif_neg (fun h => by
      have := (h 1).1
      change 128 * b.val ≤ (j 1).val at this
      omega)]
    exact hq j h1
  · rw [dif_pos (fun a => by
      match a with
      | ⟨0, _⟩ => exact ⟨Nat.zero_le _, by have : (j 0).val < 4096 := (j 0).isLt; show (j 0).val < 0 + 4096; omega⟩
      | ⟨1, _⟩ => exact ⟨by show 128 * b.val ≤ (j 1).val; omega, by show (j 1).val < 128 * b.val + 128; omega⟩)]
    unfold qAll
    have hb : (⟨(j 1).val / 128, by have : (j 1).val < 4096 := (j 1).isLt; omega⟩ : Fin 32) = b := Fin.ext (by show (j 1).val / 128 = b.val; omega)
    rw [hb]
    refine congrArg (k0_pay7 (X1 b)) (funext fun a => ?_)
    match a with
    | ⟨0, _⟩ => exact Fin.ext (by show (j 0).val - 0 = (j 0).val; omega)
    | ⟨1, _⟩ => exact Fin.ext (by show (j 1).val - 128 * b.val = (j 1).val % 128; omega)

/-- The same of the scratch of factors and offsets. -/
theorem eNext_fill (x0 : Vec F S4 .f32) (X1 : Fin 32 → Vec F S128x4096 .f32) (B : Fin 32 → Vec F S1x128 .f32) (b : Fin 32) (e : Vec F S8x4096 .f32)
    (he : ∀ j : S8x4096.Idx, (j 1).val < 128 * b.val → e j = eAll x0 X1 B j) :
    ∀ j : S8x4096.Idx, (j 1).val < 128 * (b.val + 1) → eNext b.val x0 (X1 b) (B b) e j = eAll x0 X1 B j := by
  intro j hj
  unfold eNext VecWindow.put
  by_cases h1 : (j 1).val < 128 * b.val
  · rw [dif_neg (fun h => by
      have := (h 1).1
      change 128 * b.val ≤ (j 1).val at this
      omega)]
    exact he j h1
  · rw [dif_pos (fun a => by
      match a with
      | ⟨0, _⟩ => exact ⟨Nat.zero_le _, by have : (j 0).val < 8 := (j 0).isLt; show (j 0).val < 0 + 8; omega⟩
      | ⟨1, _⟩ => exact ⟨by show 128 * b.val ≤ (j 1).val; omega, by show (j 1).val < 128 * b.val + 128; omega⟩)]
    unfold eAll
    have hb : (⟨(j 1).val / 128, by have : (j 1).val < 4096 := (j 1).isLt; omega⟩ : Fin 32) = b := Fin.ext (by show (j 1).val / 128 = b.val; omega)
    rw [hb]
    refine congrArg (k0_pay1 _ _ _) (funext fun a => ?_)
    match a with
    | ⟨0, _⟩ => exact Fin.ext (by show (j 0).val - 0 = (j 0).val; omega)
    | ⟨1, _⟩ => exact Fin.ext (by show (j 1).val - 128 * b.val = (j 1).val % 128; omega)

end Cert.KernelIdeal.Hand

end
-- ==== Proof.K.RunA.lean ====
module

public import proofs.«01_k».proof.Proof.K.Shared

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a weight-preparing point. -/
theorem run_prep (c : Dev nD) (i : grid0.Coords)
    (arg1 : Memref sig .tc .smem S4 .f32) (harg1 : arg1.IsWhole)
    (arg2 : Memref sig .tc .vmem S128x4096 .f32) (harg2 : arg2.IsWhole)
    (arg3 : Memref sig .tc .vmem S1x4096 .f32) (harg3 : arg3.IsWhole)
    (arg4 : Memref sig .tc .vmem S256x4096 .f32) (harg4 : arg4.IsWhole)
    (arg5 : Memref sig .tc .vmem S256x4096 .f32) (harg5 : arg5.IsWhole)
    (arg6 : Memref sig .tc .vmem S4096x4096 .bf16) (harg6 : arg6.IsWhole)
    (arg7 : Memref sig .tc .vmem S8x4096 .f32) (harg7 : arg7.IsWhole)
    (hc0 : Prep i) (hc1 : ¬Mm i)
    (x0 : Vec F S4 .f32) (x1 : Vec F S128x4096 .f32) (x2 : Vec F S1x4096 .f32) (x3 : Vec F S256x4096 .f32)
    (y : Vec F S256x4096 .f32) (q : Vec F S4096x4096 .bf16) (e : Vec F S8x4096 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y ∗ owns (c : Thread nD τ) arg6 fullShare q ∗ owns (c : Thread nD τ) arg7 fullShare e
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y ∗ owns (c : Thread nD τ) arg6 fullShare (qNext (i 0).val x1 q) ∗ owns (c : Thread nD τ) arg7 fullShare (eNext (i 0).val x0 x1 (VecWindow.window x2 (k0_off2 i) S1x128.size (k0_off2_inb i hc0)) e)) -∗ K ⟨⟩))
      ⊢ wp frame (wpE (defs₀ (F := F)) Variants.none c none) E
          (cc0__fused_kernel i arg1 harg1 arg2 harg2 arg3 harg3 arg4 harg4 arg5 harg5 arg6 harg6 arg7 harg7) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6
  sl_exec (disch := first | sl_exact hc0 | sl_exact hc1)
  sl_step
  sl_unfold_run_names
  iapply Hk
  isplitl [H0]
  · iexists _; isplitr
    swap; · iexact H0
    ipureintro; exact harg1.read_unread _
  isplitl [H1]
  · iexists _; isplitr
    swap; · iexact H1
    ipureintro; exact harg2.read_unread _
  isplitl [H2]
  · iexists _; isplitr
    swap; · iexact H2
    ipureintro; exact harg3.read_unread _
  isplitl [H3]
  · iexists _; isplitr
    swap; · iexact H3
    ipureintro; exact harg4.read_unread _
  isplitl [H4]
  · iexists _; isplitr
    swap; · iexact H4
    ipureintro; exact harg5.read_unread _
  isplitl [H5]
  · iexists _; isplitr
    swap; · iexact H5
    ipureintro; exact ((View.read_writes_cons_put _ _ _ _ [] (k0_off1_eq i)).trans (by rw [View.writes_nil, harg6.read_unread, View.readAt_full, harg2.read_unread]; rfl))
  iexists _; isplitr
  swap; · iexact H6
  ipureintro; exact ((View.read_writes_cons_put _ _ _ _ [] (k0_off3_eq i)).trans (by
    have e0 := scal_read harg1 x0 0 (inb := inb_S4_S1_0)
    have e1 := scal_read harg1 x0 1 (inb := inb_S4_S1_1)
    simp only [Fin.val_zero, Fin.val_one] at e0 e1
    rw [View.writes_nil, harg7.read_unread, View.readAt_full, harg2.read_unread, e0, e1,
      View.readAt_unit _ _ _ rfl (k0_off2_inb i hc0), harg3.read_unread]
    rfl))

end Cert.KernelIdeal.Hand

end
-- ==== Proof.K.RunB.lean ====
module

public import proofs.«01_k».proof.Proof.K.Shared

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a product point. -/
theorem run_mm (c : Dev nD) (i : grid0.Coords)
    (arg1 : Memref sig .tc .smem S4 .f32) (harg1 : arg1.IsWhole)
    (arg2 : Memref sig .tc .vmem S128x4096 .f32) (harg2 : arg2.IsWhole)
    (arg3 : Memref sig .tc .vmem S1x4096 .f32) (harg3 : arg3.IsWhole)
    (arg4 : Memref sig .tc .vmem S256x4096 .f32) (harg4 : arg4.IsWhole)
    (arg5 : Memref sig .tc .vmem S256x4096 .f32) (harg5 : arg5.IsWhole)
    (arg6 : Memref sig .tc .vmem S4096x4096 .bf16) (harg6 : arg6.IsWhole)
    (arg7 : Memref sig .tc .vmem S8x4096 .f32) (harg7 : arg7.IsWhole)
    (hc0 : ¬Prep i) (hc1 : Mm i)
    (x0 : Vec F S4 .f32) (x1 : Vec F S128x4096 .f32) (x2 : Vec F S1x4096 .f32) (x3 : Vec F S256x4096 .f32)
    (y : Vec F S256x4096 .f32) (q : Vec F S4096x4096 .bf16) (e : Vec F S8x4096 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y ∗ owns (c : Thread nD τ) arg6 fullShare q ∗ owns (c : Thread nD τ) arg7 fullShare e
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (yNext x0 x3 q e) ∗ owns (c : Thread nD τ) arg6 fullShare q ∗ owns (c : Thread nD τ) arg7 fullShare e) -∗ K ⟨⟩))
      ⊢ wp frame (wpE (defs₀ (F := F)) Variants.none c none) E
          (cc0__fused_kernel i arg1 harg1 arg2 harg2 arg3 harg3 arg4 harg4 arg5 harg5 arg6 harg6 arg7 harg7) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6
  sl_exec (disch := first | sl_exact hc0 | sl_exact hc1)
  sl_step
  sl_unfold_run_names
  iapply Hk
  isplitl [H0]
  · iexists _; isplitr
    swap; · iexact H0
    ipureintro; exact harg1.read_unread _
  isplitl [H1]
  · iexists _; isplitr
    swap; · iexact H1
    ipureintro; exact harg2.read_unread _
  isplitl [H2]
  · iexists _; isplitr
    swap; · iexact H2
    ipureintro; exact harg3.read_unread _
  isplitl [H3]
  · iexists _; isplitr
    swap; · iexact H3
    ipureintro; exact harg4.read_unread _
  isplitl [H4]
  · iexists _; isplitr
    swap; · iexact H4
    ipureintro; exact ((View.read_writes_full _ _ _ _ []).trans (by
      have e0 := scal_read harg1 x0 0 (inb := inb_S4_S1_0)
      have e1 := scal_read harg1 x0 1 (inb := inb_S4_S1_1)
      have e2 := scal_read harg1 x0 2 (inb := inb_S4_S1_2)
      have e3 : ∀ j, View.readAt (Elt F) arg1.view (Rect.unit (s := S4) ![3] ![1] inb_S4_S1_3).toLoadRect (harg1.unread x0) j = x0 (ValueIdx.ix1 3) := scal_read harg1 x0 3
      simp only [Fin.val_zero, Fin.val_one, Fin.val_two] at e0 e1 e2
      have r0 : View.readAt (Elt F) arg7.view (Rect.unit (s := S8x4096) ![0, 0] ![1, 4096] inb_S8x4096_S1x4096_0_0).toLoadRect (harg7.unread e) = eRow 0 e := row_read harg7 e 0 inb_S8x4096_S1x4096_0_0
      have r1 : View.readAt (Elt F) arg7.view (Rect.unit (s := S8x4096) ![1, 0] ![1, 4096] inb_S8x4096_S1x4096_1_0).toLoadRect (harg7.unread e) = eRow 1 e := row_read harg7 e 1 inb_S8x4096_S1x4096_1_0
      have w3 : View.readAt (Elt F) arg4.view (Rect.unit (s := S256x4096) ![0, 0] ![256, 4096] inb_S256x4096_S256x4096_0_0).toLoadRect (harg4.unread x3) = x3 :=
        (View.readAt_full _ _ _).trans (harg4.read_unread x3)
      have w6 : View.readAt (Elt F) arg6.view (Rect.unit (s := S4096x4096) ![0, 0] ![4096, 4096] inb_S4096x4096_S4096x4096_0_0).toLoadRect (harg6.unread q) = q :=
        (View.readAt_full _ _ _).trans (harg6.read_unread q)
      unfold yNext
      rw [e0, e1, e2, e3, r0, r1, w3, w6]))
  isplitl [H5]
  · iexists _; isplitr
    swap; · iexact H5
    ipureintro; exact harg6.read_unread _
  iexists _; isplitr
  swap; · iexact H6
  ipureintro; exact harg7.read_unread _

end Cert.KernelIdeal.Hand

end
-- ==== Proof.K.Frame.lean ====
module

public import proofs.«01_k».proof.Proof.K.Fill
public import proofs.«01_k».proof.Proof.K.RunA
public import proofs.«01_k».proof.Proof.K.RunB
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Facts of the grid, decided point by point -/

/-- The one coordinate of a point is its number. -/
theorem coord_val : ∀ t : Fin cfg0.N, (grid0.coords t 0).val = t.val :=
  (by decide +kernel : ∀ t : Fin grid0.N, (grid0.coords t 0).val = t.val)

/-- The output block is written back exactly at the product points. -/
theorem flush4_iff : ∀ t : Fin cfg0.N, (cfg0.win 4).flush t = true ↔ 32 ≤ t.val :=
  (by decide +kernel : ∀ t : Fin grid0.N, win0_4.flush t = true ↔ 32 ≤ t.val)

/-- The body leaves the output block alone exactly at the preparing points. -/
theorem idle4_iff : ∀ t : Fin cfg0.N, cfg0.idle 4 (grid0.coords t) = true ↔ t.val < 32 :=
  (by decide +kernel : ∀ t : Fin grid0.N, cfg0.idle 4 (grid0.coords t) = true ↔ t.val < 32)

/-- Preparing point `b` of the grid. -/
def pt (b : Fin 32) : Fin cfg0.N := ⟨b.val, by have := b.isLt; rw [show cfg0.N = 64 from N_0]; omega⟩

/-- It is one where weights are prepared. -/
theorem pt_prep (b : Fin 32) : Prep (grid0.coords (pt b)) := (prep_iff (pt b)).mpr b.isLt

/-! ## The contents that the proof names -/

/-- The four scalars, as the region finds them. -/
def scal0 (c : Dev nD) : Vec F S4 .f32 := V m c (Pipeline.arrRef spec0 0)
/-- The weight rows of block `b`. -/
def wRows (c : Dev nD) (b : Fin 32) : Vec F S128x4096 .f32 := iblk m c 1 (pt b)
/-- The bias of the columns of block `b`. -/
def bCols (c : Dev nD) (b : Fin 32) : Vec F S1x128 .f32 :=
  VecWindow.window (iblk m c 2 (pt b)) (k0_off2 (grid0.coords (pt b))) S1x128.size (k0_off2_inb (grid0.coords (pt b)) (pt_prep b))

/-- The four scalars are the same at every point. -/
theorem iblk0_eq (c : Dev nD) (t : Fin cfg0.N) : (iblk m c 0 t : Vec F S4 .f32) = scal0 m c := by
  unfold iblk scal0
  funext j
  refine congrArg (V m c (Pipeline.arrRef spec0 0)) (funext fun a => ?_)
  match a with
  | ⟨0, _⟩ => exact Fin.ext (by show 0 * 4 + 1 * (j 0).val = (j 0).val; omega)

/-- What the scratches hold before point `n`: every column of a block stored by then at its final value. -/
def Stored (c : Dev nD) (n : ℕ) (q : Vec F S4096x4096 .bf16) (e : Vec F S8x4096 .f32) : Prop :=
  (∀ j : S4096x4096.Idx, (j 1).val < 128 * n → q j = qAll (wRows m c) j)
    ∧ ∀ j : S8x4096.Idx, (j 1).val < 128 * n → e j = eAll (scal0 m c) (wRows m c) (bCols m c) j

/-- Nothing is asked before the first point. -/
theorem stored_zero (c : Dev nD) (q : Vec F S4096x4096 .bf16) (e : Vec F S8x4096 .f32) : Stored m c 0 q e :=
  ⟨fun j h => absurd h (by omega), fun j h => absurd h (by omega)⟩

/-- A preparing point stores one more block. -/
theorem stored_succ (c : Dev nD) (b : Fin 32) (q : Vec F S4096x4096 .bf16) (e : Vec F S8x4096 .f32) (h : Stored m c b.val q e) :
    Stored m c (b.val + 1) (qNext b.val (wRows m c b) q) (eNext b.val (scal0 m c) (wRows m c b) (bCols m c b) e) :=
  ⟨qNext_fill _ b q h.1, eNext_fill _ _ _ b e h.2⟩

/-- After the preparing points both scratches are known. -/
theorem stored_full (c : Dev nD) (n : ℕ) (hn : 32 ≤ n) (q : Vec F S4096x4096 .bf16) (e : Vec F S8x4096 .f32) (h : Stored m c n q e) :
    q = qAll (wRows m c) ∧ e = eAll (scal0 m c) (wRows m c) (bCols m c) :=
  ⟨funext fun j => h.1 j (by have : (j 1).val < 4096 := (j 1).isLt; omega),
   funext fun j => h.2 j (by have : (j 1).val < 4096 := (j 1).isLt; omega)⟩

/-- And nothing is lost later. -/
theorem stored_mono (c : Dev nD) (n : ℕ) (hn : 32 ≤ n) (q : Vec F S4096x4096 .bf16) (e : Vec F S8x4096 .f32) (h : Stored m c n q e) :
    Stored m c (n + 1) q e := by
  obtain ⟨rfl, rfl⟩ := stored_full m c n hn q e h
  exact ⟨fun _ _ => rfl, fun _ _ => rfl⟩

/-- The invariant before point `n`. -/
def inv (c : Dev nD) (n : ℕ) : sProp 𝕄 :=
  iprop((∃ q, ∃ e, ⌜Stored m c n q e⌝ ∗ owns (c : Thread nD τ) scQ fullShare q ∗ owns (c : Thread nD τ) scC fullShare e) ∗ (∃ r, prngReg c r))

/-- What the product points leave in the output's buffer. -/
def outBlk (c : Dev nD) (t : Fin cfg0.N) : Vec F S256x4096 .f32 :=
  yNext (scal0 m c) (iblk m c 3 t) (qAll (wRows m c)) (eAll (scal0 m c) (wRows m c) (bCols m c))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk m c t
  Φ n := inv m c n.val
  q _ := fullShare
  owed _ := 0

/-- The arrays of the proof data are those that the region finds. -/
theorem A_eq (c : Dev nD) (w : Fin cfg0.W) : (dats m 0 c).A w = V m c (Pipeline.arrRef spec0 w) := by dsimp only [dats]
/-- Window 0 is left as found. -/
theorem after_0 (c : Dev nD) (t : Fin cfg0.N) : (dats m 0 c).after 0 t = iblk m c 0 t := by dsimp only [dats]
/-- Window 1 is left as found. -/
theorem after_1 (c : Dev nD) (t : Fin cfg0.N) : (dats m 0 c).after 1 t = iblk m c 1 t := by dsimp only [dats]
/-- Window 2 is left as found. -/
theorem after_2 (c : Dev nD) (t : Fin cfg0.N) : (dats m 0 c).after 2 t = iblk m c 2 t := by dsimp only [dats]
/-- Window 3 is left as found. -/
theorem after_3 (c : Dev nD) (t : Fin cfg0.N) : (dats m 0 c).after 3 t = iblk m c 3 t := by dsimp only [dats]
/-- The output's buffer is left at the product. -/
theorem after_4 (c : Dev nD) (t : Fin cfg0.N) : (dats m 0 c).after 4 t = outBlk m c t := by dsimp only [dats]
/-- Window 0 is found at its block. -/
theorem before_0 (c : Dev nD) (t : Fin cfg0.N) (d) : (dats m 0 c).before 0 t d = iblk m c 0 t :=
  before0_0_of m (dats m 0 c) (A_eq m c 0) (after_0 m c) t d
/-- Window 1 is found at its block. -/
theorem before_1 (c : Dev nD) (t : Fin cfg0.N) (d) : (dats m 0 c).before 1 t d = iblk m c 1 t :=
  before0_1_of m (dats m 0 c) (A_eq m c 1) (after_1 m c) t d
/-- Window 2 is found at its block. -/
theorem before_2 (c : Dev nD) (t : Fin cfg0.N) (d) : (dats m 0 c).before 2 t d = iblk m c 2 t :=
  before0_2_of m (dats m 0 c) (A_eq m c 2) (after_2 m c) t d
/-- Window 3 is found at its block. -/
theorem before_3 (c : Dev nD) (t : Fin cfg0.N) (d) : (dats m 0 c).before 3 t d = iblk m c 3 t :=
  before0_3_of m (dats m 0 c) (A_eq m c 3) (after_3 m c) t d

/-- The output's buffer at a preparing point: it is handed back as it came. -/
theorem leaves4_prep (c : Dev nD) (t : Fin cfg0.N) (h : t.val < 32) :
    (dats m 0 c).leavesExact 4 t = iprop(∃ d, owns (c : Thread nD τ) (buf4 t) fullShare ((dats m 0 c).before 4 t d)) :=
  (dats m 0 c).leavesExact_idle 4 t ((idle4_iff t).mpr h)
    (Bool.eq_false_iff.mpr fun hf => absurd ((flush4_iff t).mp hf) (by omega))

/-- And at a product point: it holds the product. -/
theorem leaves4_mm (c : Dev nD) (t : Fin cfg0.N) (h : 32 ≤ t.val) :
    (dats m 0 c).leavesExact 4 t = owns (c : Thread nD τ) (buf4 t) fullShare (outBlk m c t) := by
  have hi : cfg0.idle 4 (grid0.coords t) = false := Bool.eq_false_iff.mpr fun hi => absurd ((idle4_iff t).mp hi) (by omega)
  unfold Dat.leavesExact
  rw [show cfg0.idle 4 (cfg0.grid.coords t) = false from hi, after_4]

/-! ## The body obligation -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- The inputs' buffers are handed back at their blocks. -/
theorem leaves_in (c : Dev nD) (t : Fin cfg0.N) :
    (dats m 0 c).leavesExact 0 t = owns (c : Thread nD τ) (buf0 t) fullShare (iblk m c 0 t)
    ∧ (dats m 0 c).leavesExact 1 t = owns (c : Thread nD τ) (buf1 t) fullShare (iblk m c 1 t)
    ∧ (dats m 0 c).leavesExact 2 t = owns (c : Thread nD τ) (buf2 t) fullShare (iblk m c 2 t)
    ∧ (dats m 0 c).leavesExact 3 t = owns (c : Thread nD τ) (buf3 t) fullShare (iblk m c 3 t) := by
  refine ⟨?_, ?_, ?_, ?_⟩
  · unfold Dat.leavesExact; rw [show cfg0.idle 0 (cfg0.grid.coords t) = false from rfl, after_0]
  · unfold Dat.leavesExact; rw [show cfg0.idle 1 (cfg0.grid.coords t) = false from rfl, after_1]
  · unfold Dat.leavesExact; rw [show cfg0.idle 2 (cfg0.grid.coords t) = false from rfl, after_2]
  · unfold Dat.leavesExact; rw [show cfg0.idle 3 (cfg0.grid.coords t) = false from rfl, after_3]

set_option maxHeartbeats 800000 in
/-- The body at a preparing point: one more block of columns is stored. -/
theorem sound_prep (c : Dev nD) (t : Fin cfg0.N) (h : t.val < 32) :
    bodyPre m c t ⊢ wp frame (wpE (defs₀ (F := F)) Variants.none c none) Set.univ (bodyAt0 t) (fun _ => bodyPost m c t) := by
  have hp : Prep (grid0.coords t) := (prep_iff t).mpr h
  have hm : ¬Mm (grid0.coords t) := fun hh => absurd ((mm_iff t).mp hh) (by omega)
  obtain ⟨e0, e1, e2, e3⟩ := leaves_in m c t
  unfold bodyPre bodyPost bodyAt0
  simp only [before_0, before_1, before_2, before_3]
  rw [e0, e1, e2, e3, leaves4_prep m c t h,
    show (dats m 0 c).owesAt () t.succ = (dats m 0 c).owesAt () t.castSucc from rfl,
    show (dats m 0 c).Φ t.castSucc = inv m c t.val from rfl,
    show (dats m 0 c).Φ t.succ = inv m c (t.val + 1) from rfl]
  unfold inv
  iintro ⟨⟨⟨%q, %e, %hs, HQ, HE⟩, Hg⟩, Ho, ⟨%d0, H0⟩, ⟨%d1, H1⟩, ⟨%d2, H2⟩, ⟨%d3, H3⟩, ⟨%d4, H4⟩⟩
  iapply (run_prep c (grid0.coords t) _ (buf0_whole t) _ (buf1_whole t) _ (buf2_whole t) _ (buf3_whole t) _ (buf4_whole t) _ _ _ _ hp hm
    (iblk m c 0 t) (iblk m c 1 t) (iblk m c 2 t) (iblk m c 3 t) ((dats m 0 c).before 4 t d4) q e Set.univ _)
  isplitl [H0]; · iexact H0
  isplitl [H1]; · iexact H1
  isplitl [H2]; · iexact H2
  isplitl [H3]; · iexact H3
  isplitl [H4]; · iexact H4
  isplitl [HQ]; · iexact HQ
  isplitl [HE]; · iexact HE
  iintro ⟨H0, H1, H2, H3, H4, HQ, HE⟩
  isplitl [HQ HE Hg]
  · isplitl [HQ HE]
    · iexists _; iexists _
      isplitr
      swap
      · isplitl [HQ]
        · iexact HQ
        iexact HE
      ipureintro
      have hb := stored_succ m c ⟨t.val, h⟩ q e hs
      rw [coord_val t, iblk0_eq]
      exact hb
    iexact Hg
  isplitl [Ho]; · iexact Ho
  isplitl [H0]; · iexact H0
  isplitl [H1]; · iexact H1
  isplitl [H2]; · iexact H2
  isplitl [H3]; · iexact H3
  iexists _; iexact H4

set_option maxHeartbeats 800000 in
/-- The body at a product point: the output's buffer takes the product with the whole prepared weight. -/
theorem sound_mm (c : Dev nD) (t : Fin cfg0.N) (h : 32 ≤ t.val) :
    bodyPre m c t ⊢ wp frame (wpE (defs₀ (F := F)) Variants.none c none) Set.univ (bodyAt0 t) (fun _ => bodyPost m c t) := by
  have hp : ¬Prep (grid0.coords t) := fun hh => absurd ((prep_iff t).mp hh) (by omega)
  have hm : Mm (grid0.coords t) := (mm_iff t).mpr h
  obtain ⟨e0, e1, e2, e3⟩ := leaves_in m c t
  unfold bodyPre bodyPost bodyAt0
  simp only [before_0, before_1, before_2, before_3]
  rw [e0, e1, e2, e3, leaves4_mm m c t h,
    show (dats m 0 c).owesAt () t.succ = (dats m 0 c).owesAt () t.castSucc from rfl,
    show (dats m 0 c).Φ t.castSucc = inv m c t.val from rfl,
    show (dats m 0 c).Φ t.succ = inv m c (t.val + 1) from rfl]
  unfold inv
  iintro ⟨⟨⟨%q, %e, %hs, HQ, HE⟩, Hg⟩, Ho, ⟨%d0, H0⟩, ⟨%d1, H1⟩, ⟨%d2, H2⟩, ⟨%d3, H3⟩, ⟨%d4, H4⟩⟩
  have hs' := stored_mono m c t.val h q e hs
  obtain ⟨hq, he⟩ := stored_full m c t.val h q e hs
  iapply (run_mm c (grid0.coords t) _ (buf0_whole t) _ (buf1_whole t) _ (buf2_whole t) _ (buf3_whole t) _ (buf4_whole t) _ _ _ _ hp hm
    (iblk m c 0 t) (iblk m c 1 t) (iblk m c 2 t) (iblk m c 3 t) ((dats m 0 c).before 4 t d4) q e Set.univ _)
  isplitl [H0]; · iexact H0
  isplitl [H1]; · iexact H1
  isplitl [H2]; · iexact H2
  isplitl [H3]; · iexact H3
  isplitl [H4]; · iexact H4
  isplitl [HQ]; · iexact HQ
  isplitl [HE]; · iexact HE
  iintro ⟨H0, H1, H2, H3, H4, HQ, HE⟩
  isplitl [HQ HE Hg]
  · isplitl [HQ HE]
    · iexists q; iexists e
      isplitr
      swap
      · isplitl [HQ]
        · iexact HQ
        iexact HE
      ipureintro; exact hs'
    iexact Hg
  isplitl [Ho]; · iexact Ho
  isplitl [H0]; · iexact H0
  isplitl [H1]; · iexact H1
  isplitl [H2]; · iexact H2
  isplitl [H3]; · iexact H3
  rw [iblk0_eq, hq, he]
  iexact H4

/-- The body at any point. -/
theorem sound_body (c : Dev nD) (t : Fin cfg0.N) :
    bodyPre m c t ⊢ wp frame (wpE (defs₀ (F := F)) Variants.none c none) Set.univ (bodyAt0 t) (fun _ => bodyPost m c t) :=
  (Nat.lt_or_ge t.val 32).elim (sound_prep m c t) (sound_mm m c t)

/-- The row of the table of bodies at a point. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratches at any contents give the invariant before the first point. -/
theorem inv_in (c : Dev nD) : (Pipeline.ΦA spec0 c : sProp 𝕄) ⊢ (dats m 0 c).Φ 0 := by
  rw [show (dats m 0 c).Φ 0 = inv m c 0 from rfl, phiA_split]
  unfold inv
  iintro ⟨⟨⟨%q, HQ⟩, ⟨%e, HE⟩⟩, Hg⟩
  isplitl [HQ HE]
  · iexists q; iexists e
    isplitr
    swap
    · isplitl [HQ]
      · iexact HQ
      iexact HE
    ipureintro; exact stored_zero m c q e
  iexact Hg

/-- The invariant after the last point gives the scratches back at some contents. -/
theorem inv_out (c : Dev nD) : (dats m 0 c).Φ (Fin.last cfg0.N) ⊢ (Pipeline.ΦA spec0 c : sProp 𝕄) := by
  rw [show (dats m 0 c).Φ (Fin.last cfg0.N) = inv m c cfg0.N from rfl, phiA_split]
  unfold inv
  iintro ⟨⟨%q, %e, %hs, HQ, HE⟩, Hg⟩
  isplitl [HQ HE]
  · isplitl [HQ]
    · iexists q; iexact HQ
    iexists e; iexact HE
  iexact Hg

/-! ## The run -/

set_option backward.isDefEq.respectTransparency.types false in
/-- Every execution ends with the arrays at what the write-backs leave, and every counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- Every execution leaves the arguments as launched and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.K.Twin.lean ====
module

public import proofs.«01_k».proof.Defs
public import proofs.«01_k».proof.Proof.Gen.Kernel.Frame
public import proofs.«01_k».proof.Proof.K.Frame

@[expose] public section

set_option maxRecDepth 16384
set_option maxHeartbeats 2000000

noncomputable section
namespace Cert.Twin
open Idealize.ShloMosaic Idealize.ShloMosaic.TcCoe Idealize.SL.Sem
variable {F : FTy → Type} [FloatOps F]

/-! The kernel as printed and the kernel printed for the reals are one program: no operation was rewritten between them. -/

/-- The weight branch, first part. -/
theorem part_eq (i : Cert.KernelIdeal.grid0.Coords) (arg1 : Memref Cert.KernelIdeal.sig .tc .smem Cert.KernelIdeal.S4 .f32) (harg1 : arg1.IsWhole) (arg2 : Memref Cert.KernelIdeal.sig .tc .vmem Cert.KernelIdeal.S128x4096 .f32) (harg2 : arg2.IsWhole) (arg3 : Memref Cert.KernelIdeal.sig .tc .vmem Cert.KernelIdeal.S1x4096 .f32) (harg3 : arg3.IsWhole) (arg4 : Memref Cert.KernelIdeal.sig .tc .vmem Cert.KernelIdeal.S256x4096 .f32) (harg4 : arg4.IsWhole) (arg5 : Memref Cert.KernelIdeal.sig .tc .vmem Cert.KernelIdeal.S256x4096 .f32) (harg5 : arg5.IsWhole) (arg6 : Memref Cert.KernelIdeal.sig .tc .vmem Cert.KernelIdeal.S4096x4096 .bf16) (harg6 : arg6.IsWhole) (arg7 : Memref Cert.KernelIdeal.sig .tc .vmem Cert.KernelIdeal.S8x4096 .f32) (harg7 : arg7.IsWhole) (arg0 : BitVec 32) (v0 : Elt F .f32) (v1 : Elt F .f32) (h : Cert.KernelIdeal.k0_cond1 i = 1#1) :
   Cert.Kernel.k0_part1 (F := F) i arg1 harg1 arg2 harg2 arg3 harg3 arg4 harg4 arg5 harg5 arg6 harg6 arg7 harg7 arg0 v0 v1 h = Cert.KernelIdeal.k0_part1 (F := F) i arg1 harg1 arg2 harg2 arg3 harg3 arg4 harg4 arg5 harg5 arg6 harg6 arg7 harg7 arg0 v0 v1 h := by
  unfold Cert.Kernel.k0_part1 Cert.KernelIdeal.k0_part1
  rfl
/-- The kernel's body. -/
theorem body_eq (i : Cert.KernelIdeal.grid0.Coords) (arg1 : Memref Cert.KernelIdeal.sig .tc .smem Cert.KernelIdeal.S4 .f32) (harg1 : arg1.IsWhole) (arg2 : Memref Cert.KernelIdeal.sig .tc .vmem Cert.KernelIdeal.S128x4096 .f32) (harg2 : arg2.IsWhole) (arg3 : Memref Cert.KernelIdeal.sig .tc .vmem Cert.KernelIdeal.S1x4096 .f32) (harg3 : arg3.IsWhole) (arg4 : Memref Cert.KernelIdeal.sig .tc .vmem Cert.KernelIdeal.S256x4096 .f32) (harg4 : arg4.IsWhole) (arg5 : Memref Cert.KernelIdeal.sig .tc .vmem Cert.KernelIdeal.S256x4096 .f32) (harg5 : arg5.IsWhole) (arg6 : Memref Cert.KernelIdeal.sig .tc .vmem Cert.KernelIdeal.S4096x4096 .bf16) (harg6 : arg6.IsWhole) (arg7 : Memref Cert.KernelIdeal.sig .tc .vmem Cert.KernelIdeal.S8x4096 .f32) (harg7 : arg7.IsWhole) :
   Cert.Kernel.cc0__fused_kernel (F := F) i arg1 harg1 arg2 harg2 arg3 harg3 arg4 harg4 arg5 harg5 arg6 harg6 arg7 harg7 = Cert.KernelIdeal.cc0__fused_kernel (F := F) i arg1 harg1 arg2 harg2 arg3 harg3 arg4 harg4 arg5 harg5 arg6 harg6 arg7 harg7 := by
  unfold Cert.Kernel.cc0__fused_kernel Cert.KernelIdeal.cc0__fused_kernel
  rfl

/-- The table of bodies. -/
theorem defs0_eq : (Cert.Kernel.defs₀ (F := F)) = (Cert.KernelIdeal.defs₀ (F := F)) := by
  unfold Cert.Kernel.defs₀ Cert.KernelIdeal.defs₀
  refine congrArg Defs.onTc (funext fun l => funext fun a => ?_)
  match l, a with
  | 0, (t, s) => exact body_eq _ _ _ _ _ _ _ _ _ _ _ _ _ _ _
/-- The table of bodies with the pipeline. -/
theorem defs_eq : (Cert.Kernel.defs (F := F)) = (Cert.KernelIdeal.defs (F := F)) := by
  unfold Cert.Kernel.defs Cert.KernelIdeal.defs; rw [defs0_eq]; rfl
/-- The host lines and the launch. -/
theorem main_eq (c : Dev Cert.KernelIdeal.nD) : Cert.Kernel.main (F := F) c = Cert.KernelIdeal.main (F := F) c := by
  unfold Cert.Kernel.main Cert.KernelIdeal.main
  rfl

/-- The kernel as printed runs, keeps its arguments and leaves every counter at zero: the twin's run, read over the printed floats. -/
theorem frame_bits : Cert.quiescent_Kernel (hKernel := Cert.Kernel.Gen.facts) := by
  intro m ρ _
  have h := Cert.KernelIdeal.Hand.frame_all (F := Bits) m ρ
  rw [← defs_eq, ← (funext main_eq : Cert.Kernel.main (F := Bits) = Cert.KernelIdeal.main (F := Bits))] at h
  exact h

end Cert.Twin

end
-- ==== Proof.R.Frame.lean ====
module

public import proofs.«01_k».proof.Proof.Gen.ReferenceIdeal.Run
public import Idealize.ShloMosaic.Lib.Claim

@[expose] public section

set_option maxRecDepth 8192

noncomputable section

namespace Cert.ReferenceIdeal.Hand

open Cert.ReferenceIdeal
open Idealize.ShloMosaic Idealize.ShloMosaic.TcCoe Idealize.ShloMosaic.StableHlo
open Idealize.SL.Sem

variable {F : FTy → Type} [FloatOps F]

/-- The reference ends with its arguments as launched and every counter at zero: it declares no semaphore. -/
theorem frame_all (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems (by decide) r.2⟩) (Value.run m ρ)

end Cert.ReferenceIdeal.Hand

end
-- ==== Proof.M.Maths.lean ====
module

public import Idealize.ShloMosaic.PureOps.Ideal
public import Idealize.ShloMosaic.PureOps.Ideal.Laws
public import Idealize.ShloMosaic.Lib.IdealHost

@[expose] public section

noncomputable section

namespace Cert.QMaths

open Idealize.ShloMosaic

/-! ## The literals of both programs -/

/-- To nearest integer, ties to even, on the extended reals. -/
abbrev rnd (x : EReal) : EReal := Ideal.liftRound Ideal.roundHalfEven x
/-- The least range that a scale divides by. -/
def eps : EReal := Ideal.ofBits .f32 0x322BCC77#32
/-- The number of steps of an eight-bit weight. -/
def c255 : EReal := Ideal.ofBits .f32 0x437F0000#32
/-- Half the number of levels of an eight-bit weight. -/
def c128 : EReal := Ideal.ofBits .f32 0x43000000#32
/-- The length of a row. -/
def c4096 : EReal := Ideal.ofBits .f32 0x45800000#32

/-- The least range is a positive real. -/
theorem eps_pos : ∃ r : ℝ, eps = (r : EReal) ∧ 0 < r := by
  refine ⟨(2 ^ 23 + 2870391 : ℕ) * (2 : ℝ) ^ ((100 : ℤ) - 127 - 23), ?_, by positivity⟩
  unfold eps
  simp [Ideal.ofBits, Ideal.ieee]

/-- The number of steps is 255. -/
theorem c255_eq : c255 = ((255 : ℝ) : EReal) := by
  unfold c255
  simp [Ideal.ofBits, Ideal.ieee]; norm_num [← EReal.coe_mul]
/-- The half is 128. -/
theorem c128_eq : c128 = ((128 : ℝ) : EReal) := by
  unfold c128
  simp [Ideal.ofBits, Ideal.ieee]; norm_num [← EReal.coe_mul]
/-- The length is 4096. -/
theorem c4096_eq : c4096 = ((4096 : ℝ) : EReal) := by
  unfold c4096
  simp [Ideal.ofBits, Ideal.ieee]; norm_num [← EReal.coe_mul]
/-- The upper end of the weight's integers is 127. -/
theorem c127_eq : Ideal.ofBits .f32 0x42FE0000#32 = ((127 : ℝ) : EReal) := by
  simp [Ideal.ofBits, Ideal.ieee]; norm_num [← EReal.coe_mul]
/-- The lower end of the weight's integers is −128. -/
theorem cm128_eq : Ideal.ofBits .f32 0xC3000000#32 = ((-128 : ℝ) : EReal) := by
  simp [Ideal.ofBits, Ideal.ieee]; norm_num [← EReal.coe_mul]
/-- The word for the logarithm of 2 that both programs raise powers of two by. -/
def cln2 : EReal := Ideal.ofBits .f32 0x3F317218#32
/-- It is a positive real. -/
theorem cln2_pos : ∃ r : ℝ, cln2 = (r : EReal) ∧ 0 < r := by
  refine ⟨(2 ^ 23 + 3240472 : ℕ) * (2 : ℝ) ^ ((126 : ℤ) - 127 - 23), ?_, by positivity⟩
  unfold cln2
  simp [Ideal.ofBits, Ideal.ieee]
/-- The word of plus infinity. -/
theorem cinf_eq : Ideal.ofBits .f32 0x7F800000#32 = ⊤ := by simp [Ideal.ofBits, Ideal.ieee]
/-- The word of minus infinity. -/
theorem cninf_eq : Ideal.ofBits .f32 0xFF800000#32 = ⊥ := by simp [Ideal.ofBits, Ideal.ieee]

/-! ## The quantiser -/

/-- The least of a row. -/
def lo {n : ℕ} (w : Fin n → EReal) : EReal := Finset.univ.fold min ⊤ w
/-- The greatest of a row. -/
def hi {n : ℕ} (w : Fin n → EReal) : EReal := Finset.univ.fold max ⊥ w
/-- The scale of `n` steps over a range. -/
def scale (n l h : EReal) : EReal := Ideal.div n (max (h - l) eps)
/-- The zero point of a scale. -/
def zero (s l b : EReal) : EReal := rnd (s * l) + b
/-- The clipped integer of an entry. -/
def quant (s z a b v : EReal) : EReal := min b (max a (rnd (s * v - z)))

/-- Being a real. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rwa [max_eq_right h]
  · rwa [max_eq_left h]
theorem IsReal.min {x y : EReal} (hx : IsReal x) (hy : IsReal y) : IsReal (min x y) := by
  rcases le_total x y with h | h
  · rwa [min_eq_left h]
  · rwa [min_eq_right h]
theorem IsReal.rnd {x : EReal} (hx : IsReal x) : IsReal (rnd x) := by
  obtain ⟨a, rfl⟩ := hx; exact ⟨_, Ideal.liftRound_coe _ _⟩
theorem isReal_coe (r : ℝ) : IsReal (r : EReal) := ⟨r, rfl⟩

/-- A real added to the difference from it is the other term. -/
theorem add_sub_self {v q : EReal} (hv : IsReal v) (hq : IsReal q) : v + (q - v) = q := by
  obtain ⟨a, rfl⟩ := hv; obtain ⟨b, rfl⟩ := hq
  rw [← EReal.coe_sub, ← EReal.coe_add]; congr 1; ring

/-- The least of a row of reals, of at least one entry, is a real. -/
theorem isReal_lo {n : ℕ} (hn : 0 < n) (w : Fin n → EReal) (hw : ∀ k, IsReal (w k)) : IsReal (lo w) := by
  have key : ∀ S : Finset (Fin n), S.fold min ⊤ w = ⊤ ∧ S = ∅ ∨ IsReal (S.fold min ⊤ w) := by
    intro S
    induction S using Finset.induction_on with
    | empty => exact Or.inl ⟨rfl, rfl⟩
    | insert a S ha ih =>
      right
      rw [Finset.fold_insert ha]
      rcases ih with ⟨h, _⟩ | h
      · rw [h, min_eq_left le_top]; exact hw a
      · exact (hw a).min h
  rcases key Finset.univ with ⟨_, h⟩ | h
  · exact absurd h (Finset.univ_nonempty_iff.mpr ⟨⟨0, hn⟩⟩).ne_empty
  · exact h

/-- The greatest of a row of reals, of at least one entry, is a real. -/
theorem isReal_hi {n : ℕ} (hn : 0 < n) (w : Fin n → EReal) (hw : ∀ k, IsReal (w k)) : IsReal (hi w) := by
  have key : ∀ S : Finset (Fin n), S.fold max ⊥ w = ⊥ ∧ S = ∅ ∨ IsReal (S.fold max ⊥ w) := by
    intro S
    induction S using Finset.induction_on with
    | empty => exact Or.inl ⟨rfl, rfl⟩
    | insert a S ha ih =>
      right
      rw [Finset.fold_insert ha]
      rcases ih with ⟨h, _⟩ | h
      · rw [h, max_eq_left bot_le]; exact hw a
      · exact (hw a).max h
  rcases key Finset.univ with ⟨_, h⟩ | h
  · exact absurd h (Finset.univ_nonempty_iff.mpr ⟨⟨0, hn⟩⟩).ne_empty
  · exact h

/-- A scale of a number of steps other than zero over a real range is a real other than zero. -/
theorem scale_ne {n : ℝ} (hn : n ≠ 0) {l h : EReal} (hl : IsReal l) (hh : IsReal h) : ∃ s : ℝ, scale n l h = (s : EReal) ∧ s ≠ 0 := by
  obtain ⟨e, he, he0⟩ := eps_pos
  obtain ⟨d, hd⟩ := hh.sub hl
  have hm : max (h - l) eps = ((max d e : ℝ) : EReal) := by rw [hd, he]; exact (EReal.coe_strictMono.monotone.map_max).symm
  have hp : 0 < max d e := lt_max_of_lt_right he0
  refine ⟨n * (max d e)⁻¹, ?_, mul_ne_zero hn (inv_ne_zero hp.ne')⟩
  unfold scale Ideal.div
  rw [hm, if_neg (by rw [← EReal.coe_zero, EReal.coe_eq_coe_iff]; exact hp.ne'), ← EReal.coe_inv, ← EReal.coe_mul]

/-- The clipped integer of a real is a real. -/
theorem isReal_quant {s z a b v : EReal} (hs : IsReal s) (hz : IsReal z) (ha : IsReal a) (hb : IsReal b) (hv : IsReal v) :
    IsReal (quant s z a b v) := hb.min (ha.max ((hs.mul hv).sub hz).rnd)

/-- A sum of reals, as a real. -/
theorem coe_sum' {n : ℕ} (f : Fin n → ℝ) : ∑ k, (f k : EReal) = ((∑ k, f k : ℝ) : EReal) := by
  induction n with
  | zero => simp
  | succ n ih => rw [Fin.sum_univ_succ, Fin.sum_univ_succ, EReal.coe_add, ih]

/-! ## The two ways to correct for the zero points -/

/-- The product with the shifted integers, scaled by a reciprocal, is the corrected product divided by the scale. -/
theorem correction {n : ℕ} (qx qw : Fin n → EReal) {sx zx sw zw N B : EReal}
    (hqx : ∀ k, IsReal (qx k)) (hqw : ∀ k, IsReal (qw k)) (hzx : IsReal zx) (hzw : IsReal zw) (hN : IsReal N)
    (hsx : ∃ s : ℝ, sx = (s : EReal) ∧ s ≠ 0) (hsw : ∃ s : ℝ, sw = (s : EReal) ∧ s ≠ 0) :
    (∑ k, qx k * (qw k + zw)) * Ideal.div 1 (sx * sw) + ((zx * (∑ k, qw k) + (zx * N) * zw) * Ideal.div 1 (sx * sw) + B)
      = Ideal.div ((∑ k, qx k * qw k) + ((zw * (∑ k, qx k) + zx * (∑ k, qw k)) + (zx * zw) * N)) (sx * sw) + B := by
  choose a ha using hqx
  choose b hb using hqw
  obtain ⟨x, rfl⟩ := hzx
  obtain ⟨w, rfl⟩ := hzw
  obtain ⟨N, rfl⟩ := hN
  obtain ⟨s, rfl, hs⟩ := hsx
  obtain ⟨u, rfl, hu⟩ := hsw
  obtain rfl : qx = fun k => (a k : EReal) := funext ha
  obtain rfl : qw = fun k => (b k : EReal) := funext hb
  have hp : s * u ≠ 0 := mul_ne_zero hs hu
  rw [← add_assoc]
  congr 1
  unfold Ideal.div
  rw [← EReal.coe_mul, if_neg (by rw [← EReal.coe_zero, EReal.coe_eq_coe_iff]; exact hp),
    if_neg (by rw [← EReal.coe_zero, EReal.coe_eq_coe_iff]; exact hp), one_mul, ← EReal.coe_inv]
  simp only [← EReal.coe_mul, ← EReal.coe_add, coe_sum']
  congr 1
  rw [Finset.sum_congr rfl (fun k _ => mul_add (a k) (b k) w), Finset.sum_add_distrib, ← Finset.sum_mul]
  ring

/-! ## One entry of the result, both ways -/

/-- A bit width as a real. -/
def width (e : BitVec 32) : EReal := ((e.toInt : ℝ) : EReal)
/-- The number of steps of an `e`-bit input. -/
def steps (e : BitVec 32) : EReal := Ideal.exp (cln2 * width e) - 1
/-- Half the number of levels of an `e`-bit input. -/
def half (e : BitVec 32) : EReal := Ideal.exp (cln2 * (width e - 1))
/-- The scale of the input. -/
def sX (n : BitVec 32) (a b : EReal) : EReal := scale (steps n) a b
/-- The zero point of the input. -/
def zX (n : BitVec 32) (a b : EReal) : EReal := zero (sX n a b) a (half n)
/-- The integer of an input entry. -/
def qX (n : BitVec 32) (a b v : EReal) : EReal := quant (sX n a b) (zX n a b) (-half n) (half n - 1) v
/-- The scale of a weight row. -/
def sW (w : Fin 4096 → EReal) : EReal := scale c255 (lo w) (hi w)
/-- The zero point of a weight row. -/
def zW (w : Fin 4096 → EReal) : EReal := zero (sW w) (lo w) c128
/-- The integer of a weight entry. -/
def qW (w : Fin 4096 → EReal) (k : Fin 4096) : EReal := quant (sW w) (zW w) ((-128 : ℝ) : EReal) ((127 : ℝ) : EReal) (w k)

/-- An entry as the kernel forms it: shifted weight integers, reciprocal scale, offset with the bias in it. -/
def entryK (n : BitVec 32) (a b : EReal) (x w : Fin 4096 → EReal) (B : EReal) : EReal :=
  (∑ k, qX n a b (x k) * (qW w k + zW w)) * Ideal.div 1 (sX n a b * sW w)
    + ((zX n a b * (∑ k, qW w k) + (zX n a b * c4096) * zW w) * Ideal.div 1 (sX n a b * sW w) + B)

/-- An entry as the reference forms it: product, three corrections, one division, the bias. -/
def entryR (n : BitVec 32) (a b : EReal) (x w : Fin 4096 → EReal) (B : EReal) : EReal :=
  Ideal.div ((∑ k, qX n a b (x k) * qW w k) + ((zW w * (∑ k, qX n a b (x k)) + zX n a b * (∑ k, qW w k)) + (zX n a b * zW w) * c4096))
    (sX n a b * sW w) + B

/-- The steps are a real, and other than zero at every bit width but zero. -/
theorem steps_ne {n : BitVec 32} (hn : n ≠ 0#32) : ∃ r : ℝ, steps n = (r : EReal) ∧ r ≠ 0 := by
  obtain ⟨c, hc, c0⟩ := cln2_pos
  refine ⟨Real.exp (c * (n.toInt : ℝ)) - 1, ?_, ?_⟩
  · unfold steps width
    rw [hc, ← EReal.coe_mul]; rfl
  · rw [sub_ne_zero, Ne, Real.exp_eq_one_iff]
    refine mul_ne_zero c0.ne' (Int.cast_ne_zero.mpr fun h => hn ?_)
    exact BitVec.eq_of_toInt_eq h
/-- The scale of a real range is a real other than zero. -/
theorem sX_ne {n : BitVec 32} (hn : n ≠ 0#32) {a b : EReal} (ha : IsReal a) (hb : IsReal b) : ∃ s : ℝ, sX n a b = (s : EReal) ∧ s ≠ 0 := by
  obtain ⟨r, hr, r0⟩ := steps_ne hn
  unfold sX
  rw [hr]
  exact scale_ne r0 ha hb
theorem isReal_sX {n : BitVec 32} (hn : n ≠ 0#32) {a b : EReal} (ha : IsReal a) (hb : IsReal b) : IsReal (sX n a b) :=
  (sX_ne hn ha hb).imp fun _ h => h.1
theorem isReal_half (n : BitVec 32) : IsReal (half n) := by
  obtain ⟨c, hc, -⟩ := cln2_pos
  refine ⟨Real.exp (c * ((n.toInt : ℝ) - 1)), ?_⟩
  unfold half width
  rw [hc, show (1 : EReal) = ((1 : ℝ) : EReal) from rfl, ← EReal.coe_sub, ← EReal.coe_mul]; rfl
theorem isReal_zX {n : BitVec 32} (hn : n ≠ 0#32) {a b : EReal} (ha : IsReal a) (hb : IsReal b) : IsReal (zX n a b) :=
  ((isReal_sX hn ha hb).mul ha).rnd.add (isReal_half n)
theorem isReal_neg {x : EReal} (hx : IsReal x) : IsReal (-x) := by
  obtain ⟨r, rfl⟩ := hx; exact ⟨-r, (EReal.coe_neg r).symm⟩
theorem isReal_qX {n : BitVec 32} (hn : n ≠ 0#32) {a b v : EReal} (ha : IsReal a) (hb : IsReal b) (hv : IsReal v) : IsReal (qX n a b v) :=
  isReal_quant (isReal_sX hn ha hb) (isReal_zX hn ha hb) (isReal_neg (isReal_half n)) ((isReal_half n).sub ⟨1, rfl⟩) hv

/-- The scale of a real weight row is a real other than zero. -/
theorem sW_ne {w : Fin 4096 → EReal} (hw : ∀ k, IsReal (w k)) : ∃ s : ℝ, sW w = (s : EReal) ∧ s ≠ 0 := by
  unfold sW
  rw [c255_eq]
  exact scale_ne (by norm_num) (isReal_lo (by norm_num) w hw) (isReal_hi (by norm_num) w hw)
theorem isReal_sW {w : Fin 4096 → EReal} (hw : ∀ k, IsReal (w k)) : IsReal (sW w) := (sW_ne hw).imp fun _ h => h.1
theorem isReal_zW {w : Fin 4096 → EReal} (hw : ∀ k, IsReal (w k)) : IsReal (zW w) :=
  ((isReal_sW hw).mul (isReal_lo (by norm_num) w hw)).rnd.add ⟨128, c128_eq⟩
theorem isReal_qW {w : Fin 4096 → EReal} (hw : ∀ k, IsReal (w k)) (k : Fin 4096) : IsReal (qW w k) :=
  isReal_quant (isReal_sW hw) (isReal_zW hw) (isReal_coe _) (isReal_coe _) (hw k)

/-- The two ways give the same entry when everything but the bias is real. -/
theorem entry_eq {n : BitVec 32} (hn : n ≠ 0#32) {a b : EReal} (ha : IsReal a) (hb : IsReal b) {x w : Fin 4096 → EReal}
    (hx : ∀ k, IsReal (x k)) (hw : ∀ k, IsReal (w k)) (B : EReal) : entryK n a b x w B = entryR n a b x w B :=
  correction _ _ (fun k => isReal_qX hn ha hb (hx k)) (isReal_qW hw) (isReal_zX hn ha hb) (isReal_zW hw) ⟨4096, c4096_eq⟩
    (sX_ne hn ha hb) (sW_ne hw)

end Cert.QMaths

end
-- ==== Proof.K.Host.lean ====
module

public import proofs.«01_k».proof.Proof.K.Frame
public import proofs.«01_k».proof.Proof.M.Maths
public import Idealize.ShloMosaic.Lib.Pointwise
public import Idealize.ShloMosaic.Lib.StableHlo.ReadAt

@[expose] public section

set_option maxRecDepth 16384

noncomputable section

namespace Cert.KernelIdeal.Hand

open Cert.KernelIdeal.Gen
open Idealize.ShloMosaic Idealize.ShloMosaic.TcCoe Idealize.ShloMosaic.Tactic
open Cert.QMaths

variable (m : (ℓ : Loc nD τ sig) → Buf (Elt Ideal) ℓ)

/-! ## The arguments, by coordinates -/

/-- The input. -/
def aX (c : Dev nD) (i : Fin 8192) (k : Fin 4096) : EReal := (m ((c.tc : Thread nD τ).loc main_arg0) : FVec Ideal S8192x4096 .f32) (ix2 i k)
/-- The weight. -/
def aW (c : Dev nD) (j k : Fin 4096) : EReal := (m ((c.tc : Thread nD τ).loc main_arg1) : FVec Ideal S4096x4096 .f32) (ix2 j k)
/-- The bias. -/
def aB (c : Dev nD) (j : Fin 4096) : EReal := (m ((c.tc : Thread nD τ).loc main_arg2) : FVec Ideal S4096 .f32) (ix1 j)
/-- The least of the input's range. -/
def aLo (c : Dev nD) : EReal := (m ((c.tc : Thread nD τ).loc main_arg3) : FVec Ideal S1 .f32) (ix1 0)
/-- The greatest of the input's range. -/
def aHi (c : Dev nD) : EReal := (m ((c.tc : Thread nD τ).loc main_arg4) : FVec Ideal S1 .f32) (ix1 0)
/-- The bit width. -/
def aK (c : Dev nD) : BitVec 32 := (m ((c.tc : Thread nD τ).loc main_arg5) : IVec S_ 32) ix0

/-! ## What the host operations before the region leave -/

set_option maxHeartbeats 1700000 in
/-- The bias row is the bias. -/
theorem bias_at (c : Dev nD) (j : Fin 4096) : (V m c main_v25 : FVec Ideal S1x4096 .f32) (ix2 0 j) = aB m c j := by
  unfold V
  simp only [hostOps0, hostOps0_1, hostOps0_2]
  after_reads_at
  rfl

set_option maxHeartbeats 1700000 in
/-- The first scalar is the input's scale. -/
theorem scal_at0 (c : Dev nD) : (V m c main_v24 : FVec Ideal S4 .f32) (ix1 0) = scale (steps (aK m c)) (aLo m c) (aHi m c) := by
  unfold V
  simp only [hostOps0, hostOps0_1, hostOps0_2]
  after_reads_at
  after_reads_at
  rfl

set_option maxHeartbeats 1700000 in
/-- The second scalar is the input's zero point. -/
theorem scal_at1 (c : Dev nD) : (V m c main_v24 : FVec Ideal S4 .f32) (ix1 1) = zero (scale (steps (aK m c)) (aLo m c) (aHi m c)) (aLo m c) (half (aK m c)) := by
  unfold V
  simp only [hostOps0, hostOps0_1, hostOps0_2]
  after_reads_at
  after_reads_at
  rfl

set_option maxHeartbeats 1700000 in
/-- The third scalar is the lower end of the input's integers. -/
theorem scal_at2 (c : Dev nD) : (V m c main_v24 : FVec Ideal S4 .f32) (ix1 2) = -half (aK m c) := by
  unfold V
  simp only [hostOps0, hostOps0_1, hostOps0_2]
  after_reads_at
  after_reads_at
  rfl

set_option maxHeartbeats 1700000 in
/-- The fourth scalar is the upper end of the input's integers. -/
theorem scal_at3 (c : Dev nD) : (V m c main_v24 : FVec Ideal S4 .f32) (ix1 3) = half (aK m c) - 1 := by
  unfold V
  simp only [hostOps0, hostOps0_1, hostOps0_2]
  after_reads_at
  after_reads_at
  rfl

end Cert.KernelIdeal.Hand

end
-- ==== Proof.K.Pay.lean ====
module

public import proofs.«01_k».proof.Proof.K.Shared
public import proofs.«01_k».proof.Proof.M.Maths
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Cert.QMaths

/-! ## The body's values at an index, `w r` being row `r` of the weight block -/

section Rows

variable (W : FVec Ideal S128x4096 .f32) (w : Fin 128 → Fin 4096 → EReal) (hW : ∀ r k, W (ix2 r k) = w r k)
include hW

/-- The least of a row. -/
theorem pay3_at (r : Fin 128) : (k0_pay3 W : FVec Ideal S128x1 .f32) (ix2 r 0) = lo (w r) := by
  pointwise [k0_pay3]
  simp only [hW, cinf_eq]
  unfold lo
  with_reducible rfl

/-- The scale of a row. -/
theorem pay4_at (r : Fin 128) : (k0_pay4 W : FVec Ideal S128x1 .f32) (ix2 r 0) = sW (w r) := by
  pointwise [k0_pay4]
  simp only [hW, cninf_eq, pay3_at W w hW]
  unfold sW scale hi c255 eps
  with_reducible rfl

/-- The zero point of a row. -/
theorem pay5_at (r : Fin 128) : (k0_pay5 W : FVec Ideal S128x1 .f32) (ix2 r 0) = zW (w r) := by
  pointwise [k0_pay5]
  simp only [pay4_at W w hW, pay3_at W w hW]
  unfold zW zero c128
  with_reducible rfl

/-- The integer of an entry. -/
theorem pay6_at (r : Fin 128) (k : Fin 4096) : (k0_pay6 W : FVec Ideal S128x4096 .f32) (ix2 r k) = qW (w r) k := by
  pointwise [k0_pay6]
  simp only [hW, pay4_at W w hW, pay5_at W w hW, c127_eq, cm128_eq]
  unfold qW quant
  with_reducible rfl

/-- The shifted integer, transposed. -/
theorem pay7_at (k : Fin 4096) (r : Fin 128) : (k0_pay7 W : FVec Ideal S4096x128 .bf16) (ix2 k r) = qW (w r) k + zW (w r) := by
  pointwise [k0_pay7]
  simp only [pay6_at W w hW, pay5_at W w hW]

/-- The reciprocal of the two scales. -/
theorem pay8_at (s : EReal) (r : Fin 128) : (k0_pay8 (F := Ideal) s W : FVec Ideal S128x1 .f32) (ix2 r 0) = Ideal.div 1 (s * sW (w r)) := by
  pointwise [k0_pay8]
  simp only [pay4_at W w hW]

/-- The offset without the bias. -/
theorem pay9_at (s z : EReal) (r : Fin 128) : (k0_pay9 (F := Ideal) s z W : FVec Ideal S128x1 .f32) (ix2 r 0)
    = (z * (∑ k, qW (w r) k) + (z * c4096) * zW (w r)) * Ideal.div 1 (s * sW (w r)) := by
  pointwise [k0_pay9]
  simp only [pay6_at W w hW, pay5_at W w hW, pay8_at W w hW]
  unfold c4096
  with_reducible rfl

end Rows

/-- The first row of the factors and offsets. -/
theorem pay1_at0 (a c : FVec Ideal S128x1 .f32) (b : FVec Ideal S1x128 .f32) (k : Fin 128) :
    (k0_pay1 a c b : FVec Ideal S8x128 .f32) (ix2 0 k) = a (ix2 k 0) := by
  pointwise [k0_pay1]

/-- The second row. -/
theorem pay1_at1 (a c : FVec Ideal S128x1 .f32) (b : FVec Ideal S1x128 .f32) (k : Fin 128) :
    (k0_pay1 a c b : FVec Ideal S8x128 .f32) (ix2 1 k) = c (ix2 k 0) + b (ix2 0 k) := by
  pointwise [k0_pay1]

/-- The output block. -/
theorem pay2_at (s z l h : EReal) (x : FVec Ideal S256x4096 .f32) (q : FVec Ideal S4096x4096 .bf16) (a c : FVec Ideal S1x4096 .f32)
    (i : Fin 256) (j : Fin 4096) : (k0_pay2 (F := Ideal) s z l h x q a c : FVec Ideal S256x4096 .f32) (ix2 i j)
      = (∑ k, quant s z l h (x (ix2 i k)) * q (ix2 k j)) * a (ix2 0 j) + c (ix2 0 j) := by
  pointwise [k0_pay2]
  unfold quant
  with_reducible rfl

end Cert.KernelIdeal.Hand

end
-- ==== Proof.K.Value.lean ====
module

public import proofs.«01_k».proof.Proof.K.Host
public import proofs.«01_k».proof.Proof.K.Pay
public import Idealize.ShloMosaic.Lib.Pipeline.ValueKit.Geometry
public import Idealize.ShloMosaic.Lib.Pointwise.IndexBridge

@[expose] public section

set_option maxRecDepth 16384

noncomputable section

namespace Cert.KernelIdeal.Hand

open Cert.KernelIdeal.Gen
open Idealize.ShloMosaic Idealize.ShloMosaic.TcCoe Idealize.ShloMosaic.Tactic
open Cert.QMaths

variable (m : (ℓ : Loc nD τ sig) → Buf (Elt Ideal) ℓ)

/-! ## The blocks, by coordinates -/

/-- The block of weight rows at a preparing point, numbered. -/
theorem index1 : ∀ b : Fin 32, win0_1.index (pt b) 0 = b.val ∧ win0_1.index (pt b) 1 = 0 := by decide +kernel
/-- The bias row is one block. -/
theorem index2 : ∀ b : Fin 32, win0_2.index (pt b) 0 = 0 ∧ win0_2.index (pt b) 1 = 0 := by decide +kernel
/-- The block of input rows, numbered. -/
theorem index3 : ∀ t : Fin grid0.N, win0_3.index t 0 = t.val - 32 ∧ win0_3.index t 1 = 0 := by decide +kernel
/-- The block of output rows, numbered. -/
theorem index4 : ∀ t : Fin grid0.N, win0_4.index t 0 = t.val - 32 ∧ win0_4.index t 1 = 0 := by decide +kernel

/-- Where a preparing point reads the bias row. -/
theorem off2_val : ∀ b : Fin 32, k0_off2 (grid0.coords (pt b)) 0 = 0 ∧ k0_off2 (grid0.coords (pt b)) 1 = 128 * b.val := by decide +kernel

/-- A weight block's row is the weight's. -/
theorem wRows_at (c : Dev nD) (b : Fin 32) (r : Fin 128) (k : Fin 4096) :
    (wRows m c b : FVec Ideal S128x4096 .f32) (ix2 r k) = aW m c ⟨128 * b.val + r.val, by omega⟩ k := by
  unfold wRows aW
  blk_simp [iblk]
  rw [V_main_arg1]
  refine congrArg (m ((c.tc : Thread nD τ).loc main_arg1)) (funext fun a => ?_)
  match a with
  | ⟨0, _⟩ => exact Fin.ext (by blk_simp [index1]; show b.val * 128 + r.val = 128 * b.val + r.val; omega)
  | ⟨1, _⟩ => exact Fin.ext (by blk_simp [index1])

/-- A slice of the bias row is the bias's. -/
theorem bCols_at (c : Dev nD) (b : Fin 32) (r : Fin 128) :
    (bCols m c b : FVec Ideal S1x128 .f32) (ix2 0 r) = aB m c ⟨128 * b.val + r.val, by omega⟩ := by
  rw [← bias_at]
  unfold bCols VecWindow.window
  blk_simp [iblk]
  refine congrArg (V m c main_v25) (funext fun a => ?_)
  match a with
  | ⟨0, _⟩ => exact Fin.ext (by blk_simp [index2]; rw [(off2_val b).1]; exact Nat.zero_add _)
  | ⟨1, _⟩ => exact Fin.ext (by blk_simp [index2]; rw [(off2_val b).2])

/-- An input block's row is the input's. -/
theorem xRows_at (c : Dev nD) (t : Fin cfg0.N) (h : 32 ≤ t.val) (r : Fin 256) (k : Fin 4096) :
    (iblk m c 3 t : FVec Ideal S256x4096 .f32) (ix2 r k)
      = aX m c ⟨256 * (t.val - 32) + r.val, by have : t.val < 64 := t.isLt; omega⟩ k := by
  unfold aX
  blk_simp [iblk]
  rw [V_main_arg0]
  refine congrArg (m ((c.tc : Thread nD τ).loc main_arg0)) (funext fun a => ?_)
  match a with
  | ⟨0, _⟩ => exact Fin.ext (by blk_simp [index3]; show (t.val - 32) * 256 + r.val = 256 * (t.val - 32) + r.val; omega)
  | ⟨1, _⟩ => exact Fin.ext (by blk_simp [index3])

/-! ## The scratches, by coordinates -/

/-- A column's number from its block and its place there. -/
theorem col_eq (j : Fin 4096) (h : 128 * (j.val / 128) + j.val % 128 < 4096) : (⟨128 * (j.val / 128) + j.val % 128, h⟩ : Fin 4096) = j :=
  Fin.ext (Nat.div_add_mod j.val 128)

/-- The weight scratch holds the shifted integers, transposed. -/
theorem qAll_at (c : Dev nD) (k j : Fin 4096) :
    (qAll (wRows m c) : FVec Ideal S4096x4096 .bf16) (ix2 k j) = qW (aW m c j) k + zW (aW m c j) := by
  show (k0_pay7 (wRows m c ⟨j.val / 128, _⟩) : FVec Ideal S4096x128 .bf16) (ValueIdx.ix2 k ⟨j.val % 128, _⟩) = _
  rw [← ix2_eq_valueIdx, pay7_at _ _ (wRows_at m c _), col_eq]

/-- The factors: one over the product of the scales. -/
theorem eAll_at0 (c : Dev nD) (j : Fin 4096) : (eAll (scal0 m c) (wRows m c) (bCols m c) : FVec Ideal S8x4096 .f32) (ix2 0 j)
    = Ideal.div 1 (scal0 m c (ValueIdx.ix1 0) * sW (aW m c j)) := by
  show (k0_pay1 (k0_pay8 (scal0 m c (ValueIdx.ix1 0)) (wRows m c ⟨j.val / 128, _⟩)) (k0_pay9 (scal0 m c (ValueIdx.ix1 0)) (scal0 m c (ValueIdx.ix1 1)) (wRows m c ⟨j.val / 128, _⟩))
    (bCols m c ⟨j.val / 128, _⟩) : FVec Ideal S8x128 .f32) (ValueIdx.ix2 0 ⟨j.val % 128, _⟩) = _
  rw [← ix2_eq_valueIdx, pay1_at0, pay8_at _ _ (wRows_at m c _), col_eq]

/-- The offsets: the corrections scaled, and the bias. -/
theorem eAll_at1 (c : Dev nD) (j : Fin 4096) : (eAll (scal0 m c) (wRows m c) (bCols m c) : FVec Ideal S8x4096 .f32) (ix2 1 j)
    = ((scal0 m c (ValueIdx.ix1 1) : EReal) * (∑ k, qW (aW m c j) k) + (scal0 m c (ValueIdx.ix1 1) * c4096) * zW (aW m c j))
        * Ideal.div 1 (scal0 m c (ValueIdx.ix1 0) * sW (aW m c j)) + aB m c j := by
  show (k0_pay1 (k0_pay8 (scal0 m c (ValueIdx.ix1 0)) (wRows m c ⟨j.val / 128, _⟩)) (k0_pay9 (scal0 m c (ValueIdx.ix1 0)) (scal0 m c (ValueIdx.ix1 1)) (wRows m c ⟨j.val / 128, _⟩))
    (bCols m c ⟨j.val / 128, _⟩) : FVec Ideal S8x128 .f32) (ValueIdx.ix2 1 ⟨j.val % 128, _⟩) = _
  rw [← ix2_eq_valueIdx, pay1_at1, pay9_at _ _ (wRows_at m c _), bCols_at, col_eq]

/-! ## The scalars -/

theorem scal0_0 (c : Dev nD) : (scal0 m c (ValueIdx.ix1 0) : EReal) = sX (aK m c) (aLo m c) (aHi m c) := by
  rw [← ix1_eq_valueIdx]
  exact scal_at0 m c
theorem scal0_1 (c : Dev nD) : (scal0 m c (ValueIdx.ix1 1) : EReal) = zX (aK m c) (aLo m c) (aHi m c) := by
  rw [← ix1_eq_valueIdx]
  exact scal_at1 m c
theorem scal0_2 (c : Dev nD) : (scal0 m c (ValueIdx.ix1 2) : EReal) = -half (aK m c) := by
  rw [← ix1_eq_valueIdx]
  exact scal_at2 m c
theorem scal0_3 (c : Dev nD) : (scal0 m c (ValueIdx.ix1 3) : EReal) = half (aK m c) - 1 := by
  rw [← ix1_eq_valueIdx]
  exact scal_at3 m c

/-! ## The result -/

/-- An entry of a product point's block. -/
theorem outBlk_at (c : Dev nD) (t : Fin cfg0.N) (ht : 32 ≤ t.val) (r : Fin 256) (j : Fin 4096) :
    (outBlk m c t : FVec Ideal S256x4096 .f32) (ix2 r j)
      = entryK (aK m c) (aLo m c) (aHi m c) (aX m c ⟨256 * (t.val - 32) + r.val, by have : t.val < 64 := t.isLt; omega⟩) (aW m c j) (aB m c j) := by
  have e0 : (eRow 0 (eAll (scal0 m c) (wRows m c) (bCols m c)) : FVec Ideal S1x4096 .f32) (ix2 0 j)
      = (eAll (scal0 m c) (wRows m c) (bCols m c) : FVec Ideal S8x4096 .f32) (ix2 0 j) := by
    rw [ix2_eq_valueIdx (0 : Fin 8) j]; rfl
  have e1 : (eRow 1 (eAll (scal0 m c) (wRows m c) (bCols m c)) : FVec Ideal S1x4096 .f32) (ix2 0 j)
      = (eAll (scal0 m c) (wRows m c) (bCols m c) : FVec Ideal S8x4096 .f32) (ix2 1 j) := by
    rw [ix2_eq_valueIdx (1 : Fin 8) j]; rfl
  unfold outBlk yNext
  refine (pay2_at _ _ _ _ _ _ _ _ r j).trans ?_
  rw [e0, e1, eAll_at0, eAll_at1, scal0_0 m c, scal0_1 m c, scal0_2 m c, scal0_3 m c]
  simp only [qAll_at, xRows_at m c t ht]
  unfold entryK qX
  with_reducible rfl

/-- The whole result, entry by entry. -/
def result (c : Dev nD) : FVec Ideal S8192x4096 .f32 := fun i => entryK (aK m c) (aLo m c) (aHi m c) (aX m c (i 0)) (aW m c (i 1)) (aB m c (i 1))

/-- The output array is the result. -/
theorem final (c : Dev nD) : (dats m 0 c).arrAt 4 cfg0.N = result m c := by
  refine (dats m 0 c).arrAt_eq_of_covers 4 _ (by decide +kernel) fun t hf y => ?_
  have ht : 32 ≤ t.val := (flush4_iff t).mp hf
  blk_simp
  rw [after_4]
  refine (congrArg (outBlk m c t) (eq_ix2 (y : S256x4096.Idx))).trans ((outBlk_at m c t ht (y 0) (y 1)).trans ?_)
  have a0 : (((win0_4.blk t).view.emb y : S8192x4096.Idx) 0) = (⟨256 * (t.val - 32) + (y 0).val, by have : t.val < 64 := t.isLt; have : (y 0).val < 256 := (y 0).isLt; omega⟩ : Fin 8192) :=
    by
    apply Fin.ext
    change _ = 256 * (t.val - 32) + (y 0).val
    blk_simp [index4]
    omega
  have a1 : (((win0_4.blk t).view.emb y : S8192x4096.Idx) 1) = y 1 := Fin.ext (by blk_simp [index4])
  unfold result
  rw [a0, a1]

end Cert.KernelIdeal.Hand

end
-- ==== Proof.R.Read.lean ====
module

public import proofs.«01_k».proof.Proof.Gen.ReferenceIdeal
public import proofs.«01_k».proof.Proof.M.Maths
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.QMaths

/-! ## The weight's quantiser over any vectors, `w j` being row `j` of the weight -/

section Weight

variable (X : FVec Ideal S4096x4096 .f32) (w : Fin 4096 → Fin 4096 → EReal) (hX : ∀ j k, X (ix2 j k) = w j k)
include hX

/-- The least of each row. -/
theorem read_lo (j : Fin 4096) :
    (broadcastInDim S4096x1 ![0] bcast_S4096_S4096x1_0 (Host.reduce FloatOps.minimumf X (constant S_ .f32 0x7F800000#32) reducesTo_S4096x4096_S4096_d1 h_S_) : FVec Ideal S4096x1 .f32) (ix2 j 0)
      = lo (w j) := by
  pointwise
  simp only [hX, cinf_eq]
  unfold lo
  with_reducible rfl

/-- The greatest of each row. -/
theorem read_hi (j : Fin 4096) :
    (Host.reduce FloatOps.maximumf X (constant S_ .f32 0xFF800000#32) reducesTo_S4096x4096_S4096_d1 h_S_ : FVec Ideal S4096 .f32) (ix1 j)
      = hi (w j) := by
  pointwise
  simp only [hX, cninf_eq]
  unfold hi
  with_reducible rfl

omit hX in
/-- The scale of each row, the greatest and the least being known. -/
theorem read_scale (vM : FVec Ideal S4096 .f32) (v1 : FVec Ideal S4096x1 .f32) (hM : ∀ j, vM (ix1 j) = hi (w j)) (h1 : ∀ j, v1 (ix2 j 0) = lo (w j)) (j : Fin 4096) :
    (Host.divf (broadcastInDim S4096x1 ![] bcast_S_S4096x1 (constant S_ .f32 0x437F0000#32)) (maximumf (subf (broadcastInDim S4096x1 ![0] bcast_S4096_S4096x1_0 vM) v1) (broadcastInDim S4096x1 ![] bcast_S_S4096x1 (constant S_ .f32 0x322BCC77#32))) : FVec Ideal S4096x1 .f32) (ix2 j 0)
      = sW (w j) := by
  pointwise
  simp only [hM, h1]
  unfold sW scale c255 eps
  with_reducible rfl

omit hX in
/-- The zero point of each row. -/
theorem read_zero (v8 v1 : FVec Ideal S4096x1 .f32) (h8 : ∀ j, v8 (ix2 j 0) = sW (w j)) (h1 : ∀ j, v1 (ix2 j 0) = lo (w j)) (j : Fin 4096) :
    (addf (Host.roundeven (mulf v8 v1)) (broadcastInDim S4096x1 ![] bcast_S_S4096x1 (constant S_ .f32 0x43000000#32)) : FVec Ideal S4096x1 .f32) (ix2 j 0)
      = zW (w j) := by
  pointwise
  simp only [h8, h1]
  unfold zW zero c128
  with_reducible rfl

/-- The scaled and shifted weight. -/
theorem read_scaled (v8 v12 : FVec Ideal S4096x1 .f32) (h8 : ∀ j, v8 (ix2 j 0) = sW (w j)) (h12 : ∀ j, v12 (ix2 j 0) = zW (w j)) (j k : Fin 4096) :
    (subf (mulf (broadcastInDim S4096x4096 ![0, 1] bcast_S4096x1_S4096x4096_0_1 v8) X) (broadcastInDim S4096x4096 ![0, 1] bcast_S4096x1_S4096x4096_0_1 v12) : FVec Ideal S4096x4096 .f32) (ix2 j k)
      = sW (w j) * w j k - zW (w j) := by
  pointwise
  simp only [h8, h12, hX]

omit hX in
/-- The straight-through form gives the integer itself, the weight being real. -/
theorem read_quant (v16 : FVec Ideal S4096x4096 .f32) (h16 : ∀ j k, v16 (ix2 j k) = sW (w j) * w j k - zW (w j))
    (hw : ∀ j k, IsReal (w j k)) (j k : Fin 4096) :
    (addf v16 (subf (minimumf (broadcastInDim S4096x4096 ![] bcast_S_S4096x4096 (sitofp .f32 (constantI S_ 32 127#32))) (maximumf (broadcastInDim S4096x4096 ![] bcast_S_S4096x4096 (sitofp .f32 (constantI S_ 32 4294967168#32))) (Host.roundeven v16))) v16) : FVec Ideal S4096x4096 .f32) (ix2 j k)
      = qW (w j) k := by
  pointwise
  have h1 : (FloatOps.sitofp FTy.f32 127#32 : Ideal .f32) = ((127 : ℝ) : EReal) := by
    show (((127#32 : BitVec 32).toInt : ℝ) : EReal) = _
    rw [show (127#32 : BitVec 32).toInt = 127 from rfl]; norm_num
  have h2 : (FloatOps.sitofp FTy.f32 4294967168#32 : Ideal .f32) = ((-128 : ℝ) : EReal) := by
    show (((4294967168#32 : BitVec 32).toInt : ℝ) : EReal) = _
    rw [show (4294967168#32 : BitVec 32).toInt = -128 from rfl]; norm_num
  rw [h1, h2, h16]
  exact add_sub_self (((isReal_sW (hw j)).mul (hw j k)).sub (isReal_zW (hw j))) (isReal_qW (hw j) k)

omit hX in
/-- A column read as a row. -/
theorem read_col (v : FVec Ideal S4096x1 .f32) (j : Fin 4096) : (shapeCast S4096 v shapeCasts_S4096x1_S4096 : FVec Ideal S4096 .f32) (ix1 j) = v (ix2 j 0) := by
  pointwise

end Weight

/-! ## The input's quantiser over any vectors -/

/-- The one word of a one-word vector. -/
theorem read_one (v : FVec Ideal S1 .f32) : (shapeCast S_ v shapeCasts_S1_S_ : FVec Ideal S_ .f32) ix0 = v (ix1 0) := by
  pointwise

/-- The steps of the input. -/
theorem read_steps (e : IVec S_ 32) :
    (subf (Host.exp (mulf (broadcastInDim S_ ![] bcast_S_S_ (constant S_ .f32 0x3F317218#32)) (sitofp .f32 e))) (constant S_ .f32 0x3F800000#32) : FVec Ideal S_ .f32) ix0 = steps (e ix0) := by
  pointwise
  unfold steps width cln2
  rfl

/-- Half the levels of the input. -/
theorem read_half (e : IVec S_ 32) :
    (Host.exp (mulf (broadcastInDim S_ ![] bcast_S_S_ (constant S_ .f32 0x3F317218#32)) (subf (sitofp .f32 e) (constant S_ .f32 0x3F800000#32))) : FVec Ideal S_ .f32) ix0 = half (e ix0) := by
  pointwise
  unfold half width cln2
  rfl

/-- The scale of the input. -/
theorem read_sX (n : BitVec 32) (s l h : FVec Ideal S_ .f32) (a b : EReal) (hl : l ix0 = a) (hh : h ix0 = b) (hs : s ix0 = steps n) :
    (Host.divf s (maximumf (subf h l) (constant S_ .f32 0x322BCC77#32)) : FVec Ideal S_ .f32) ix0 = sX n a b := by
  pointwise
  rw [hl, hh, hs]
  unfold sX scale
  rfl

/-- The zero point of the input. -/
theorem read_zX (n : BitVec 32) (v l g : FVec Ideal S_ .f32) (a b : EReal) (hl : l ix0 = a) (hv : v ix0 = sX n a b) (hg : g ix0 = half n) :
    (addf (Host.roundeven (mulf v l)) g : FVec Ideal S_ .f32) ix0 = zX n a b := by
  pointwise
  rw [hl, hv, hg]
  unfold zX zero
  rfl

/-- The scaled and shifted input. -/
theorem read_scaledX (v98 v102 : FVec Ideal S_ .f32) (x : FVec Ideal S8192x4096 .f32) (i : Fin 8192) (k : Fin 4096) :
    (subf (mulf (broadcastInDim S8192x4096 ![] bcast_S_S8192x4096 v98) x) (broadcastInDim S8192x4096 ![] bcast_S_S8192x4096 v102) : FVec Ideal S8192x4096 .f32) (ix2 i k)
      = v98 ix0 * x (ix2 i k) - v102 ix0 := by
  pointwise

/-- The straight-through form gives the integer itself, the input being real. -/
theorem read_quantX (n : BitVec 32) (hn : n ≠ 0#32) (v : FVec Ideal S8192x4096 .f32) (g : FVec Ideal S_ .f32) (a b : EReal) (ha : IsReal a) (hb : IsReal b)
    (hg : g ix0 = half n) (i : Fin 8192) (k : Fin 4096) (x : EReal) (hx : IsReal x) (hv : v (ix2 i k) = sX n a b * x - zX n a b) :
    (addf v (subf (minimumf (broadcastInDim S8192x4096 ![] bcast_S_S8192x4096 (subf g (constant S_ .f32 0x3F800000#32))) (maximumf (broadcastInDim S8192x4096 ![] bcast_S_S8192x4096 (Host.negf g)) (Host.roundeven v))) v) : FVec Ideal S8192x4096 .f32) (ix2 i k)
      = qX n a b x := by
  pointwise
  rw [hv, hg]
  exact add_sub_self (((isReal_sX hn ha hb).mul hx).sub (isReal_zX hn ha hb)) (isReal_qX hn ha hb hx)

/-! ## The result -/

/-- The reference's last operations: the product of the quantised arrays, the zero points' share, the scales divided out, the bias. -/
def lastOps (q : FVec Ideal S8192x4096 .f32) (u : FVec Ideal S4096x4096 .f32) (z : FVec Ideal S4096 .f32) (v98 v102 : FVec Ideal S_ .f32)
    (v8 : FVec Ideal S4096x1 .f32) (B : FVec Ideal S4096 .f32) : FVec Ideal S8192x4096 .f32 :=
  addf (Host.divf (addf (Host.dotGeneral dot_S8192x4096_S4096x4096_S8192x4096_1_0_0_1_n_n none q (transpose S4096x4096 [1, 0] u transposes_S4096x4096_S4096x4096_1_0)) (addf (addf (mulf (broadcastInDim S8192x4096 ![0, 1] bcast_S1x4096_S8192x4096_0_1 (broadcastInDim S1x4096 ![1] bcast_S4096_S1x4096_1 z)) (broadcastInDim S8192x4096 ![0, 1] bcast_S8192x1_S8192x4096_0_1 (broadcastInDim S8192x1 ![0] bcast_S8192_S8192x1_0 (Host.reduceAdd q (constant S_ .f32 0x00000000#32) reducesTo_S8192x4096_S8192_d1 h_S_)))) (broadcastInDim S8192x4096 ![0, 1] bcast_S1x4096_S8192x4096_0_1 (mulf (broadcastInDim S1x4096 ![] bcast_S_S1x4096 v102) (broadcastInDim S1x4096 ![1] bcast_S4096_S1x4096_1 (Host.reduceAdd u (constant S_ .f32 0x00000000#32) reducesTo_S4096x4096_S4096_d1 h_S_))))) (broadcastInDim S8192x4096 ![0, 1] bcast_S1x4096_S8192x4096_0_1 (mulf (mulf (broadcastInDim S1x4096 ![] bcast_S_S1x4096 v102) (broadcastInDim S1x4096 ![1] bcast_S4096_S1x4096_1 z)) (broadcastInDim S1x4096 ![] bcast_S_S1x4096 (constant S_ .f32 0x45800000#32)))))) (broadcastInDim S8192x4096 ![0, 1] bcast_S1x4096_S8192x4096_0_1 (mulf (broadcastInDim S1x4096 ![] bcast_S_S1x4096 v98) (broadcastInDim S1x4096 ![1] bcast_S4096_S1x4096_1 (shapeCast S4096 v8 shapeCasts_S4096x1_S4096))))) (broadcastInDim S8192x4096 ![0, 1] bcast_S1x4096_S8192x4096_0_1 (broadcastInDim S1x4096 ![1] bcast_S4096_S1x4096_1 B))

/-- One entry of the reference's last operations. -/
theorem read_out (q : FVec Ideal S8192x4096 .f32) (u : FVec Ideal S4096x4096 .f32) (z : FVec Ideal S4096 .f32) (v98 v102 : FVec Ideal S_ .f32)
    (v8 : FVec Ideal S4096x1 .f32) (B : FVec Ideal S4096 .f32) (i : Fin 8192) (j : Fin 4096) :
    lastOps q u z v98 v102 v8 B (ix2 i j)
      = Ideal.div ((∑ k, q (ix2 i k) * u (ix2 j k)) + ((z (ix1 j) * (∑ k, q (ix2 i k)) + v102 ix0 * (∑ k, u (ix2 j k))) + (v102 ix0 * z (ix1 j)) * c4096))
          (v98 ix0 * v8 (ix2 j 0)) + B (ix1 j) := by
  unfold lastOps
  pointwise
  rfl

end Cert.ReferenceIdeal.Hand

end
-- ==== Proof.R.Value.lean ====
module

public import proofs.«01_k».proof.Proof.Gen.ReferenceIdeal.Run
public import proofs.«01_k».proof.Proof.R.Read

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Cert.QMaths

variable (V0 : Valuation τ sig (Elt Ideal))

/-! ## The arguments, by coordinates -/

/-- The input. -/
def aX (i : Fin 8192) (k : Fin 4096) : EReal := (V0 (Proc.devRef .tc main_arg0) : FVec Ideal S8192x4096 .f32) (ix2 i k)
/-- The weight. -/
def aW (j k : Fin 4096) : EReal := (V0 (Proc.devRef .tc main_arg1) : FVec Ideal S4096x4096 .f32) (ix2 j k)
/-- The bias. -/
def aB (j : Fin 4096) : EReal := (V0 (Proc.devRef .tc main_arg2) : FVec Ideal S4096 .f32) (ix1 j)
/-- The least of the input's range. -/
def aLo : EReal := (V0 (Proc.devRef .tc main_arg3) : FVec Ideal S1 .f32) (ix1 0)
/-- The greatest of the input's range. -/
def aHi : EReal := (V0 (Proc.devRef .tc main_arg4) : FVec Ideal S1 .f32) (ix1 0)
/-- The bit width. -/
def aK : BitVec 32 := (V0 (Proc.devRef .tc main_arg5) : IVec S_ 32) ix0

/-! ## The reference's intermediate values -/

/-- The least of each weight row. -/
def wLo : FVec Ideal S4096x1 .f32 := broadcastInDim S4096x1 ![0] bcast_S4096_S4096x1_0 (Host.reduce FloatOps.minimumf (V0 (Proc.devRef .tc main_arg1) : FVec Ideal S4096x4096 .f32) (constant S_ .f32 0x7F800000#32) reducesTo_S4096x4096_S4096_d1 h_S_)
/-- The greatest of each weight row. -/
def wHi : FVec Ideal S4096 .f32 := Host.reduce FloatOps.maximumf (V0 (Proc.devRef .tc main_arg1) : FVec Ideal S4096x4096 .f32) (constant S_ .f32 0xFF800000#32) reducesTo_S4096x4096_S4096_d1 h_S_
/-- The scale of each weight row. -/
def wS : FVec Ideal S4096x1 .f32 := Host.divf (broadcastInDim S4096x1 ![] bcast_S_S4096x1 (constant S_ .f32 0x437F0000#32)) (maximumf (subf (broadcastInDim S4096x1 ![0] bcast_S4096_S4096x1_0 (wHi V0)) (wLo V0)) (broadcastInDim S4096x1 ![] bcast_S_S4096x1 (constant S_ .f32 0x322BCC77#32)))
/-- The zero point of each weight row. -/
def wZ : FVec Ideal S4096x1 .f32 := addf (Host.roundeven (mulf (wS V0) (wLo V0))) (broadcastInDim S4096x1 ![] bcast_S_S4096x1 (constant S_ .f32 0x43000000#32))
/-- The weight scaled and shifted. -/
def wV : FVec Ideal S4096x4096 .f32 := subf (mulf (broadcastInDim S4096x4096 ![0, 1] bcast_S4096x1_S4096x4096_0_1 (wS V0)) (V0 (Proc.devRef .tc main_arg1) : FVec Ideal S4096x4096 .f32)) (broadcastInDim S4096x4096 ![0, 1] bcast_S4096x1_S4096x4096_0_1 (wZ V0))
/-- The weight's integers. -/
def wQ : FVec Ideal S4096x4096 .f32 := addf (wV V0) (subf (minimumf (broadcastInDim S4096x4096 ![] bcast_S_S4096x4096 (sitofp .f32 (constantI S_ 32 127#32))) (maximumf (broadcastInDim S4096x4096 ![] bcast_S_S4096x4096 (sitofp .f32 (constantI S_ 32 4294967168#32))) (Host.roundeven (wV V0)))) (wV V0))
/-- The least of the input's range. -/
def xLo : FVec Ideal S_ .f32 := shapeCast S_ (V0 (Proc.devRef .tc main_arg3) : FVec Ideal S1 .f32) shapeCasts_S1_S_
/-- The greatest of the input's range. -/
def xHi : FVec Ideal S_ .f32 := shapeCast S_ (V0 (Proc.devRef .tc main_arg4) : FVec Ideal S1 .f32) shapeCasts_S1_S_
/-- The input's steps. -/
def xN : FVec Ideal S_ .f32 := subf (Host.exp (mulf (broadcastInDim S_ ![] bcast_S_S_ (constant S_ .f32 0x3F317218#32)) (sitofp .f32 (V0 (Proc.devRef .tc main_arg5) : IVec S_ 32)))) (constant S_ .f32 0x3F800000#32)
/-- Half the input's levels. -/
def xH : FVec Ideal S_ .f32 := Host.exp (mulf (broadcastInDim S_ ![] bcast_S_S_ (constant S_ .f32 0x3F317218#32)) (subf (sitofp .f32 (V0 (Proc.devRef .tc main_arg5) : IVec S_ 32)) (constant S_ .f32 0x3F800000#32)))
/-- The input's scale. -/
def xS : FVec Ideal S_ .f32 := Host.divf (xN V0) (maximumf (subf (xHi V0) (xLo V0)) (constant S_ .f32 0x322BCC77#32))
/-- The input's zero point. -/
def xZ : FVec Ideal S_ .f32 := addf (Host.roundeven (mulf (xS V0) (xLo V0))) (xH V0)
/-- The input scaled and shifted. -/
def xV : FVec Ideal S8192x4096 .f32 := subf (mulf (broadcastInDim S8192x4096 ![] bcast_S_S8192x4096 (xS V0)) (V0 (Proc.devRef .tc main_arg0) : FVec Ideal S8192x4096 .f32)) (broadcastInDim S8192x4096 ![] bcast_S_S8192x4096 (xZ V0))
/-- The input's integers. -/
def xQ : FVec Ideal S8192x4096 .f32 := addf (xV V0) (subf (minimumf (broadcastInDim S8192x4096 ![] bcast_S_S8192x4096 (subf (xH V0) (constant S_ .f32 0x3F800000#32))) (maximumf (broadcastInDim S8192x4096 ![] bcast_S_S8192x4096 (Host.negf (xH V0))) (Host.roundeven (xV V0)))) (xV V0))
/-- The result. -/
def out : FVec Ideal S8192x4096 .f32 :=
  lastOps (xQ V0) (wQ V0) (shapeCast S4096 (wZ V0) shapeCasts_S4096x1_S4096) (xS V0) (xZ V0) (wS V0) (V0 (Proc.devRef .tc main_arg2) : FVec Ideal S4096 .f32)

/-! ## The weight's quantiser -/

theorem wLo_at (j : Fin 4096) : wLo V0 (ix2 j 0) = lo (aW V0 j) :=
  read_lo (V0 (Proc.devRef .tc main_arg1)) (aW V0) (fun _ _ => rfl) j

theorem wHi_at (j : Fin 4096) : wHi V0 (ix1 j) = hi (aW V0 j) :=
  read_hi (V0 (Proc.devRef .tc main_arg1)) (aW V0) (fun _ _ => rfl) j

theorem wS_at (j : Fin 4096) : wS V0 (ix2 j 0) = sW (aW V0 j) :=
  read_scale (aW V0) _ _ (wHi_at V0) (wLo_at V0) j

theorem wZ_at (j : Fin 4096) : wZ V0 (ix2 j 0) = zW (aW V0 j) :=
  read_zero (aW V0) _ _ (wS_at V0) (wLo_at V0) j

theorem wV_at (j k : Fin 4096) : wV V0 (ix2 j k) = sW (aW V0 j) * aW V0 j k - zW (aW V0 j) :=
  read_scaled (V0 (Proc.devRef .tc main_arg1)) (aW V0) (fun _ _ => rfl) _ _ (wS_at V0) (wZ_at V0) j k

theorem wQ_at (hw : ∀ j k, IsReal (aW V0 j k)) (j k : Fin 4096) : wQ V0 (ix2 j k) = qW (aW V0 j) k :=
  read_quant (aW V0) _ (wV_at V0) hw j k

theorem wZrow_at (j : Fin 4096) : (shapeCast S4096 (wZ V0) shapeCasts_S4096x1_S4096 : FVec Ideal S4096 .f32) (ix1 j) = zW (aW V0 j) :=
  (read_col _ j).trans (wZ_at V0 j)

/-! ## The input's quantiser -/

theorem xLo_at : xLo V0 ix0 = aLo V0 := read_one _
theorem xHi_at : xHi V0 ix0 = aHi V0 := read_one _
theorem xN_at : xN V0 ix0 = steps (aK V0) := read_steps _
theorem xH_at : xH V0 ix0 = half (aK V0) := read_half _

theorem xS_at : xS V0 ix0 = sX (aK V0) (aLo V0) (aHi V0) :=
  read_sX (aK V0) (xN V0) (xLo V0) (xHi V0) _ _ (xLo_at V0) (xHi_at V0) (xN_at V0)

theorem xZ_at : xZ V0 ix0 = zX (aK V0) (aLo V0) (aHi V0) :=
  read_zX (aK V0) (xS V0) (xLo V0) (xH V0) _ _ (xLo_at V0) (xS_at V0) (xH_at V0)

theorem xV_at (i : Fin 8192) (k : Fin 4096) : xV V0 (ix2 i k) = sX (aK V0) (aLo V0) (aHi V0) * aX V0 i k - zX (aK V0) (aLo V0) (aHi V0) := by
  refine (read_scaledX (xS V0) (xZ V0) (V0 (Proc.devRef .tc main_arg0)) i k).trans ?_
  rw [xS_at V0, xZ_at V0]
  unfold aX
  rfl

theorem xQ_at (hk : aK V0 ≠ 0#32) (ha : IsReal (aLo V0)) (hb : IsReal (aHi V0)) (hx : ∀ i k, IsReal (aX V0 i k)) (i : Fin 8192) (k : Fin 4096) :
    xQ V0 (ix2 i k) = qX (aK V0) (aLo V0) (aHi V0) (aX V0 i k) :=
  read_quantX (aK V0) hk (xV V0) (xH V0) _ _ ha hb (xH_at V0) i k (aX V0 i k) (hx i k) (xV_at V0 i k)

/-! ## The result -/

/-- The whole result, entry by entry. -/
def result : FVec Ideal S8192x4096 .f32 := fun i => entryR (aK V0) (aLo V0) (aHi V0) (aX V0 (i 0)) (aW V0 (i 1)) (aB V0 (i 1))

/-- What the reference leaves. -/
theorem out_eq (hk : aK V0 ≠ 0#32) (ha : IsReal (aLo V0)) (hb : IsReal (aHi V0)) (hx : ∀ i k, IsReal (aX V0 i k)) (hw : ∀ j k, IsReal (aW V0 j k)) :
    out V0 = result V0 := by
  funext y
  obtain ⟨i, j, rfl⟩ : ∃ i j, y = ix2 i j := ⟨y 0, y 1, eq_ix2 y⟩
  unfold out
  refine (read_out _ _ _ _ _ _ _ i j).trans ?_
  simp only [xQ_at V0 hk ha hb hx, wQ_at V0 hw, wZrow_at V0, xS_at V0, xZ_at V0, wS_at V0]
  unfold result entryR aB
  rfl

/-- The reference ends with its last operations' result and its arguments as launched. -/
theorem run_last (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v79) = out (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2⟩) (Cert.ReferenceIdeal.Value.run m ρ)
  unfold res_main_v79 out lastOps xQ xV xZ xS xH xN xHi xLo wQ wV wZ wS wHi wLo
  rfl

end Cert.ReferenceIdeal.Hand

end
-- ==== Proof.M.Pre.lean ====
module

public import proofs.«01_k».proof.Pre_finite_inputs
public import proofs.«01_k».proof.Proof.M.Maths
public import Idealize.ShloMosaic.Lib.ReduceAll
public import Idealize.ShloMosaic.Lib.WordCmp

@[expose] public section

set_option maxRecDepth 16384

noncomputable section

namespace Cert.QPre

open Idealize.ShloMosaic Cert.QMaths Cert.Pre_finite_inputs

/-- The shapes the condition's operations take fit. -/
theorem fits : Cert.Pre_finite_inputs.Facts where
  bcast_S_S8192x4096 := by decide
  reducesTo_S8192x4096_S_d0_1 := by decide
  h_S_ := by decide
  bcast_S_S4096x4096 := by decide
  reducesTo_S4096x4096_S_d0_1 := by decide
  bcast_S_S1 := by decide
  reducesTo_S1_S_d0 := by decide

/-- The rank-zero shape has one index. -/
instance : Subsingleton S_.Idx := ⟨fun a b => funext fun d => d.elim0⟩

/-- The word of the infinity is the top. -/
theorem inf_top : Ideal.ofBits .f32 0x7F800000#32 = ⊤ := cinf_eq

/-- An entry the condition finds below the infinity in size is a real. -/
theorem isReal_of_lt {v : EReal} (h : FloatOps.cmpf (F := Ideal) (φ := .f32) .olt (FloatOps.absf (F := Ideal) (φ := .f32) v) (Ideal.ofBits .f32 0x7F800000#32) = 1#1) : IsReal v := by
  rw [inf_top] at h
  induction v with
  | bot => exact absurd h (by simp [FloatOps.cmpf, FloatOps.absf, Ideal.cmp])
  | top => exact absurd h (by simp [FloatOps.cmpf, FloatOps.absf, Ideal.cmp])
  | coe r => exact ⟨r, rfl⟩

/-- A one-bit conjunction is 1 only if both sides are. -/
theorem both {a b : BitVec 1} (h : IntOp.andi a b = 1#1) : a = 1#1 ∧ b = 1#1 := by
  revert a b; decide

/-- Every entry of a vector the condition accepts is a real, whatever the shape. -/
theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : IsReal (x i) :=
  isReal_of_lt (Host.reduce_andi_all _ _ hr hu j e i)

/-- A bit width the condition finds unequal to zero is not zero. -/
theorem width_ne (e : BitVec 32) (h : IntOp.cmpi .ne e 0#32 = 1#1) : e ≠ 0#32 := by
  rintro rfl
  exact absurd h (by decide)

/-- What the condition says of the arguments. -/
theorem said [Cert.Pre_finite_inputs.Facts] (x : FVec Ideal S8192x4096 .f32) (w : FVec Ideal S4096x4096 .f32) (b : FVec Ideal S4096 .f32) (l h : FVec Ideal S1 .f32) (e : IVec S_ 32)
    (hp : Cert.Pre_finite_inputs.fn (F := Ideal) x w b l h e = fun _ => 1#1) :
    (∀ i, IsReal (x i)) ∧ (∀ i, IsReal (w i)) ∧ (∀ i, IsReal (l i)) ∧ (∀ i, IsReal (h i))
      ∧ ∀ j, e j ≠ 0#32 := by
  have hj : ∀ j, Cert.Pre_finite_inputs.fn (F := Ideal) x w b l h e j = 1#1 := fun j => congrFun hp j
  unfold Cert.Pre_finite_inputs.fn Cert.Pre_finite_inputs.fn_part1 at hj
  have j0 : S_.Idx := fun d => d.elim0
  obtain ⟨r, -⟩ := both (hj j0)
  obtain ⟨r, eh⟩ := both r
  obtain ⟨r, el⟩ := both r
  obtain ⟨ex, ew⟩ := both r
  exact ⟨all_real x _ _ _ j0 ex, all_real w _ _ _ j0 ew, all_real l _ _ _ j0 el, all_real h _ _ _ j0 eh,
    fun j => width_ne (e j) (both (hj j)).2⟩

end Cert.QPre

end
-- ==== Proof.Equal.lean ====
module

public import proofs.«01_k».proof.Defs
public import proofs.«01_k».proof.Proof.K.Value
public import proofs.«01_k».proof.Proof.R.Value
public import proofs.«01_k».proof.Proof.R.Frame
public import proofs.«01_k».proof.Proof.M.Pre
public import Idealize.ShloMosaic.Lib.Claim

@[expose] public section

set_option maxRecDepth 16384

noncomputable section

namespace Cert.Equal

open Idealize.ShloMosaic Idealize.ShloMosaic.TcCoe Idealize.SL.Sem Cert.QMaths

/-- The kernel's memory at launch. -/
abbrev KMem := (ℓ : Loc Cert.KernelIdeal.nD Cert.KernelIdeal.τ Cert.KernelIdeal.sig) → Buf (Elt Ideal) ℓ
/-- The reference's memory at launch. -/
abbrev RMem := (ℓ : Loc Cert.ReferenceIdeal.nD Cert.ReferenceIdeal.τ Cert.ReferenceIdeal.sig) → Buf (Elt Ideal) ℓ

/-- What the condition gives of one device's arguments: the reals among them and a bit width other than zero. -/
structure Good (m : KMem) (c : Dev Cert.KernelIdeal.nD) : Prop where
  x : ∀ i k, IsReal (Cert.KernelIdeal.Hand.aX m c i k)
  w : ∀ j k, IsReal (Cert.KernelIdeal.Hand.aW m c j k)
  lo : IsReal (Cert.KernelIdeal.Hand.aLo m c)
  hi : IsReal (Cert.KernelIdeal.Hand.aHi m c)
  k : Cert.KernelIdeal.Hand.aK m c ≠ 0#32

/-- The condition makes the arguments good on every device. -/
theorem good [Cert.Pre_finite_inputs.Facts] (m : KMem) (h : Cert.Pre_KernelIdeal_finite_inputs m) (c : Dev Cert.KernelIdeal.nD) : Good m c := by
  obtain ⟨hx, hw, hl, hh, hk⟩ := Cert.QPre.said _ _ _ _ _ _ (h c)
  exact ⟨fun _ _ => hx _, fun _ _ => hw _, hl _, hh _, hk _⟩

/-- The kernel ends with the result in its output and its arguments as launched. -/
theorem kernel_run (m : KMem) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v26) = Cert.KernelIdeal.Hand.result m c) := by
  refine (θ_run _ _ _).mono (fun r h c => ?_) (Cert.KernelIdeal.Hand.run_main (F := Ideal) m g)
  exact ((h.1 c).1 4).trans (Cert.KernelIdeal.Hand.final m c)

/-- From agreeing arguments the reference's closed form is the kernel's. -/
theorem same (m : KMem) (m' : RMem) (c : Dev Cert.KernelIdeal.nD) (hg : Good m c)
    (e0 : Cert.ReferenceIdeal.Hand.aX (StableHlo.launchContents m' c) = Cert.KernelIdeal.Hand.aX m c)
    (e1 : Cert.ReferenceIdeal.Hand.aW (StableHlo.launchContents m' c) = Cert.KernelIdeal.Hand.aW m c)
    (e2 : Cert.ReferenceIdeal.Hand.aB (StableHlo.launchContents m' c) = Cert.KernelIdeal.Hand.aB m c)
    (e3 : Cert.ReferenceIdeal.Hand.aLo (StableHlo.launchContents m' c) = Cert.KernelIdeal.Hand.aLo m c)
    (e4 : Cert.ReferenceIdeal.Hand.aHi (StableHlo.launchContents m' c) = Cert.KernelIdeal.Hand.aHi m c)
    (e5 : Cert.ReferenceIdeal.Hand.aK (StableHlo.launchContents m' c) = Cert.KernelIdeal.Hand.aK m c) :
    Cert.ReferenceIdeal.Hand.result (StableHlo.launchContents m' c) = Cert.KernelIdeal.Hand.result m c := by
  funext y
  unfold Cert.ReferenceIdeal.Hand.result Cert.KernelIdeal.Hand.result
  rw [e0, e1, e2, e3, e4, e5]
  exact (entry_eq hg.k hg.lo hg.hi (fun k => hg.x (y 0) k) (fun k => hg.w (y 1) k) _).symm

/-- The kernel and the reference, from agreeing arguments the condition accepts, end with equal results and unchanged arguments. -/
theorem algebraic [Cert.Pre_finite_inputs.Facts] : Cert.algebraic_KernelIdeal_ReferenceIdeal_pre_finite_inputs (hKernelIdeal := Cert.KernelIdeal.Gen.facts) (hReferenceIdeal := Cert.ReferenceIdeal.Gen.facts) := by
  intro m g m' g' hp ha
  have hg := good m hp
  refine ⟨fun c => Cert.KernelIdeal.Hand.result m c, ?_, ?_⟩
  · exact (θ_run _ _ _).mono (fun r h c => ⟨h.1 c, h.2.1 c⟩) (θ_run_and (kernel_run m g) (Cert.KernelIdeal.Hand.frame_all (F := Ideal) m g))
  · refine (θ_run _ _ _).mono (fun r h c => ⟨(h c).1.trans ?_, (h c).2⟩) (Cert.ReferenceIdeal.Hand.run_last m' g')
    obtain ⟨a0, a1, a2, a3, a4, a5⟩ := ha c
    have e0 : Cert.ReferenceIdeal.Hand.aX (StableHlo.launchContents m' c) = Cert.KernelIdeal.Hand.aX m c := funext fun i => funext fun k => congrFun a0 (ix2 i k)
    have e1 : Cert.ReferenceIdeal.Hand.aW (StableHlo.launchContents m' c) = Cert.KernelIdeal.Hand.aW m c := funext fun j => funext fun k => congrFun a1 (ix2 j k)
    have e2 : Cert.ReferenceIdeal.Hand.aB (StableHlo.launchContents m' c) = Cert.KernelIdeal.Hand.aB m c := funext fun j => congrFun a2 (ix1 j)
    have e3 : Cert.ReferenceIdeal.Hand.aLo (StableHlo.launchContents m' c) = Cert.KernelIdeal.Hand.aLo m c := congrFun a3 (ix1 0)
    have e4 : Cert.ReferenceIdeal.Hand.aHi (StableHlo.launchContents m' c) = Cert.KernelIdeal.Hand.aHi m c := congrFun a4 (ix1 0)
    have e5 : Cert.ReferenceIdeal.Hand.aK (StableHlo.launchContents m' c) = Cert.KernelIdeal.Hand.aK m c := congrFun a5 ix0
    exact (Cert.ReferenceIdeal.Hand.out_eq _ (fun h => (hg c).k (e5.symm.trans h)) (e3 ▸ (hg c).lo) (e4 ▸ (hg c).hi)
      (fun i k => by rw [e0]; exact (hg c).x i k) (fun j k => by rw [e1]; exact (hg c).w j k)).trans (same m m' c (hg c) e0 e1 e2 e3 e4 e5)

end Cert.Equal

end
-- ==== Proof.lean ====
module

public import proofs.«01_k».proof.Defs
public import proofs.«01_k».proof.Proof.K.Twin
public import proofs.«01_k».proof.Proof.K.Frame
public import proofs.«01_k».proof.Proof.R.Frame
public import proofs.«01_k».proof.Proof.Equal

@[expose] public section

noncomputable section

namespace Cert.Proof

open Idealize.ShloMosaic Idealize.SL.Sem

/-- The kernel as printed runs and keeps its arguments. -/
theorem frame_kernel : Cert.quiescent_Kernel := Cert.Twin.frame_bits

/-- The kernel over the reals runs and keeps its arguments. -/
theorem frame_kernelIdeal : Cert.quiescent_KernelIdeal := fun m ρ _ => Cert.KernelIdeal.Hand.frame_all m ρ

/-- The reference over the reals runs and keeps its arguments. -/
theorem frame_referenceIdeal : Cert.quiescent_ReferenceIdeal := fun m ρ _ => Cert.ReferenceIdeal.Hand.frame_all m ρ

/-- Everything claimed. -/
theorem claim : Cert.Claim :=
  ⟨Cert.Kernel.Gen.facts, Cert.KernelIdeal.Gen.facts, Cert.ReferenceIdeal.Gen.facts, Cert.QPre.fits,
    frame_kernel,
    frame_kernelIdeal, fun m ρ _ => frame_kernelIdeal m ρ trivial,
    frame_referenceIdeal, fun m ρ _ => frame_referenceIdeal m ρ trivial,
    trivial,
    @Cert.Equal.algebraic Cert.QPre.fits⟩

end Cert.Proof

end
